-- ==== Defs.lean ====
def Pre_ReferenceIdeal (m : (ℓ : Loc Cert.ReferenceIdeal.nD Cert.ReferenceIdeal.τ Cert.ReferenceIdeal.sig) → Buf (Elt Ideal) ℓ) : Prop :=
  True

def Pre_ReferenceIdeal_table_1_ReferenceIdeal [hPre_table_1_ReferenceIdeal : Cert.Pre_table_1_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_table_1_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_table_2_ReferenceIdeal [hPre_table_2_ReferenceIdeal : Cert.Pre_table_2_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_table_2_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_table_3_ReferenceIdeal [hPre_table_3_ReferenceIdeal : Cert.Pre_table_3_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_table_3_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_table_4_ReferenceIdeal [hPre_table_4_ReferenceIdeal : Cert.Pre_table_4_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_table_4_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_table_5_ReferenceIdeal [hPre_table_5_ReferenceIdeal : Cert.Pre_table_5_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_table_5_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_table_6_ReferenceIdeal [hPre_table_6_ReferenceIdeal : Cert.Pre_table_6_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_table_6_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_table_7_ReferenceIdeal [hPre_table_7_ReferenceIdeal : Cert.Pre_table_7_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_table_7_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_table_8_ReferenceIdeal [hPre_table_8_ReferenceIdeal : Cert.Pre_table_8_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_table_8_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_table_9_ReferenceIdeal [hPre_table_9_ReferenceIdeal : Cert.Pre_table_9_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_table_9_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_table_10_ReferenceIdeal [hPre_table_10_ReferenceIdeal : Cert.Pre_table_10_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_table_10_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_table_11_ReferenceIdeal [hPre_table_11_ReferenceIdeal : Cert.Pre_table_11_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_table_11_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_table_12_ReferenceIdeal [hPre_table_12_ReferenceIdeal : Cert.Pre_table_12_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_table_12_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_table_13_ReferenceIdeal [hPre_table_13_ReferenceIdeal : Cert.Pre_table_13_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_table_13_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_table_14_ReferenceIdeal [hPre_table_14_ReferenceIdeal : Cert.Pre_table_14_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_table_14_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_table_15_ReferenceIdeal [hPre_table_15_ReferenceIdeal : Cert.Pre_table_15_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_table_15_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel [hPre_table_1_Kernel : Cert.Pre_table_1_Kernel.Facts] (m : (ℓ : Loc Cert.Kernel.nD Cert.Kernel.τ Cert.Kernel.sig) → Buf (Elt Bits) ℓ) : Prop :=
  ∀ c : Dev Cert.Kernel.nD,
    (Cert.Pre_table_1_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_table_2_Kernel [hPre_table_2_Kernel : Cert.Pre_table_2_Kernel.Facts] (m : (ℓ : Loc Cert.Kernel.nD Cert.Kernel.τ Cert.Kernel.sig) → Buf (Elt Bits) ℓ) : Prop :=
  ∀ c : Dev Cert.Kernel.nD,
    (Cert.Pre_table_2_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_table_3_Kernel [hPre_table_3_Kernel : Cert.Pre_table_3_Kernel.Facts] (m : (ℓ : Loc Cert.Kernel.nD Cert.Kernel.τ Cert.Kernel.sig) → Buf (Elt Bits) ℓ) : Prop :=
  ∀ c : Dev Cert.Kernel.nD,
    (Cert.Pre_table_3_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_table_4_Kernel [hPre_table_4_Kernel : Cert.Pre_table_4_Kernel.Facts] (m : (ℓ : Loc Cert.Kernel.nD Cert.Kernel.τ Cert.Kernel.sig) → Buf (Elt Bits) ℓ) : Prop :=
  ∀ c : Dev Cert.Kernel.nD,
    (Cert.Pre_table_4_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_table_5_Kernel [hPre_table_5_Kernel : Cert.Pre_table_5_Kernel.Facts] (m : (ℓ : Loc Cert.Kernel.nD Cert.Kernel.τ Cert.Kernel.sig) → Buf (Elt Bits) ℓ) : Prop :=
  ∀ c : Dev Cert.Kernel.nD,
    (Cert.Pre_table_5_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_table_6_Kernel [hPre_table_6_Kernel : Cert.Pre_table_6_Kernel.Facts] (m : (ℓ : Loc Cert.Kernel.nD Cert.Kernel.τ Cert.Kernel.sig) → Buf (Elt Bits) ℓ) : Prop :=
  ∀ c : Dev Cert.Kernel.nD,
    (Cert.Pre_table_6_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_table_7_Kernel [hPre_table_7_Kernel : Cert.Pre_table_7_Kernel.Facts] (m : (ℓ : Loc Cert.Kernel.nD Cert.Kernel.τ Cert.Kernel.sig) → Buf (Elt Bits) ℓ) : Prop :=
  ∀ c : Dev Cert.Kernel.nD,
    (Cert.Pre_table_7_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_table_8_Kernel [hPre_table_8_Kernel : Cert.Pre_table_8_Kernel.Facts] (m : (ℓ : Loc Cert.Kernel.nD Cert.Kernel.τ Cert.Kernel.sig) → Buf (Elt Bits) ℓ) : Prop :=
  ∀ c : Dev Cert.Kernel.nD,
    (Cert.Pre_table_8_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_table_9_Kernel [hPre_table_9_Kernel : Cert.Pre_table_9_Kernel.Facts] (m : (ℓ : Loc Cert.Kernel.nD Cert.Kernel.τ Cert.Kernel.sig) → Buf (Elt Bits) ℓ) : Prop :=
  ∀ c : Dev Cert.Kernel.nD,
    (Cert.Pre_table_9_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_table_10_Kernel [hPre_table_10_Kernel : Cert.Pre_table_10_Kernel.Facts] (m : (ℓ : Loc Cert.Kernel.nD Cert.Kernel.τ Cert.Kernel.sig) → Buf (Elt Bits) ℓ) : Prop :=
  ∀ c : Dev Cert.Kernel.nD,
    (Cert.Pre_table_10_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_table_11_Kernel [hPre_table_11_Kernel : Cert.Pre_table_11_Kernel.Facts] (m : (ℓ : Loc Cert.Kernel.nD Cert.Kernel.τ Cert.Kernel.sig) → Buf (Elt Bits) ℓ) : Prop :=
  ∀ c : Dev Cert.Kernel.nD,
    (Cert.Pre_table_11_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_table_12_Kernel [hPre_table_12_Kernel : Cert.Pre_table_12_Kernel.Facts] (m : (ℓ : Loc Cert.Kernel.nD Cert.Kernel.τ Cert.Kernel.sig) → Buf (Elt Bits) ℓ) : Prop :=
  ∀ c : Dev Cert.Kernel.nD,
    (Cert.Pre_table_12_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_table_13_Kernel [hPre_table_13_Kernel : Cert.Pre_table_13_Kernel.Facts] (m : (ℓ : Loc Cert.Kernel.nD Cert.Kernel.τ Cert.Kernel.sig) → Buf (Elt Bits) ℓ) : Prop :=
  ∀ c : Dev Cert.Kernel.nD,
    (Cert.Pre_table_13_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_table_14_Kernel [hPre_table_14_Kernel : Cert.Pre_table_14_Kernel.Facts] (m : (ℓ : Loc Cert.Kernel.nD Cert.Kernel.τ Cert.Kernel.sig) → Buf (Elt Bits) ℓ) : Prop :=
  ∀ c : Dev Cert.Kernel.nD,
    (Cert.Pre_table_14_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_table_15_Kernel [hPre_table_15_Kernel : Cert.Pre_table_15_Kernel.Facts] (m : (ℓ : Loc Cert.Kernel.nD Cert.Kernel.τ Cert.Kernel.sig) → Buf (Elt Bits) ℓ) : Prop :=
  ∀ c : Dev Cert.Kernel.nD,
    (Cert.Pre_table_15_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_table_1_Kernel : Cert.Pre_table_1_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_table_1_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_table_2_Kernel [hPre_table_2_Kernel : Cert.Pre_table_2_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_table_2_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_table_3_Kernel [hPre_table_3_Kernel : Cert.Pre_table_3_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_table_3_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_table_4_Kernel [hPre_table_4_Kernel : Cert.Pre_table_4_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_table_4_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_table_5_Kernel [hPre_table_5_Kernel : Cert.Pre_table_5_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_table_5_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_table_6_Kernel [hPre_table_6_Kernel : Cert.Pre_table_6_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_table_6_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_table_7_Kernel [hPre_table_7_Kernel : Cert.Pre_table_7_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_table_7_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_table_8_Kernel [hPre_table_8_Kernel : Cert.Pre_table_8_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_table_8_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_table_9_Kernel [hPre_table_9_Kernel : Cert.Pre_table_9_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_table_9_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_table_10_Kernel [hPre_table_10_Kernel : Cert.Pre_table_10_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_table_10_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_table_11_Kernel [hPre_table_11_Kernel : Cert.Pre_table_11_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_table_11_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_table_12_Kernel [hPre_table_12_Kernel : Cert.Pre_table_12_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_table_12_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_table_13_Kernel [hPre_table_13_Kernel : Cert.Pre_table_13_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_table_13_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_table_14_Kernel [hPre_table_14_Kernel : Cert.Pre_table_14_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_table_14_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_table_15_Kernel [hPre_table_15_Kernel : Cert.Pre_table_15_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_table_15_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_table_1_ReferenceIdeal [hReferenceIdeal : Cert.ReferenceIdeal.Facts] [hPre_table_1_ReferenceIdeal : Cert.Pre_table_1_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_table_1_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_table_2_ReferenceIdeal [hReferenceIdeal : Cert.ReferenceIdeal.Facts] [hPre_table_2_ReferenceIdeal : Cert.Pre_table_2_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_table_2_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_table_3_ReferenceIdeal [hReferenceIdeal : Cert.ReferenceIdeal.Facts] [hPre_table_3_ReferenceIdeal : Cert.Pre_table_3_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_table_3_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_table_4_ReferenceIdeal [hReferenceIdeal : Cert.ReferenceIdeal.Facts] [hPre_table_4_ReferenceIdeal : Cert.Pre_table_4_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_table_4_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_table_5_ReferenceIdeal [hReferenceIdeal : Cert.ReferenceIdeal.Facts] [hPre_table_5_ReferenceIdeal : Cert.Pre_table_5_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_table_5_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_table_6_ReferenceIdeal [hReferenceIdeal : Cert.ReferenceIdeal.Facts] [hPre_table_6_ReferenceIdeal : Cert.Pre_table_6_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_table_6_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_table_7_ReferenceIdeal [hReferenceIdeal : Cert.ReferenceIdeal.Facts] [hPre_table_7_ReferenceIdeal : Cert.Pre_table_7_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_table_7_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_table_8_ReferenceIdeal [hReferenceIdeal : Cert.ReferenceIdeal.Facts] [hPre_table_8_ReferenceIdeal : Cert.Pre_table_8_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_table_8_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_table_9_ReferenceIdeal [hReferenceIdeal : Cert.ReferenceIdeal.Facts] [hPre_table_9_ReferenceIdeal : Cert.Pre_table_9_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_table_9_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_table_10_ReferenceIdeal [hReferenceIdeal : Cert.ReferenceIdeal.Facts] [hPre_table_10_ReferenceIdeal : Cert.Pre_table_10_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_table_10_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_table_11_ReferenceIdeal [hReferenceIdeal : Cert.ReferenceIdeal.Facts] [hPre_table_11_ReferenceIdeal : Cert.Pre_table_11_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_table_11_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_table_12_ReferenceIdeal [hReferenceIdeal : Cert.ReferenceIdeal.Facts] [hPre_table_12_ReferenceIdeal : Cert.Pre_table_12_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_table_12_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_table_13_ReferenceIdeal [hReferenceIdeal : Cert.ReferenceIdeal.Facts] [hPre_table_13_ReferenceIdeal : Cert.Pre_table_13_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_table_13_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_table_14_ReferenceIdeal [hReferenceIdeal : Cert.ReferenceIdeal.Facts] [hPre_table_14_ReferenceIdeal : Cert.Pre_table_14_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_table_14_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_table_15_ReferenceIdeal [hReferenceIdeal : Cert.ReferenceIdeal.Facts] [hPre_table_15_ReferenceIdeal : Cert.Pre_table_15_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_table_15_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel [hKernel : Cert.Kernel.Facts] [hPre_table_1_Kernel : Cert.Pre_table_1_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_table_2_Kernel [hKernel : Cert.Kernel.Facts] [hPre_table_2_Kernel : Cert.Pre_table_2_Kernel.Facts] : Prop :=
  ∀ (m : (ℓ : Loc Cert.Kernel.nD Cert.Kernel.τ Cert.Kernel.sig) → Buf (Elt Bits) ℓ) (g : Dev Cert.Kernel.nD → PrngReg), Pre_Kernel_table_2_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_table_3_Kernel [hKernel : Cert.Kernel.Facts] [hPre_table_3_Kernel : Cert.Pre_table_3_Kernel.Facts] : Prop :=
  ∀ (m : (ℓ : Loc Cert.Kernel.nD Cert.Kernel.τ Cert.Kernel.sig) → Buf (Elt Bits) ℓ) (g : Dev Cert.Kernel.nD → PrngReg), Pre_Kernel_table_3_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_table_4_Kernel [hKernel : Cert.Kernel.Facts] [hPre_table_4_Kernel : Cert.Pre_table_4_Kernel.Facts] : Prop :=
  ∀ (m : (ℓ : Loc Cert.Kernel.nD Cert.Kernel.τ Cert.Kernel.sig) → Buf (Elt Bits) ℓ) (g : Dev Cert.Kernel.nD → PrngReg), Pre_Kernel_table_4_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_table_5_Kernel [hKernel : Cert.Kernel.Facts] [hPre_table_5_Kernel : Cert.Pre_table_5_Kernel.Facts] : Prop :=
  ∀ (m : (ℓ : Loc Cert.Kernel.nD Cert.Kernel.τ Cert.Kernel.sig) → Buf (Elt Bits) ℓ) (g : Dev Cert.Kernel.nD → PrngReg), Pre_Kernel_table_5_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_table_6_Kernel [hKernel : Cert.Kernel.Facts] [hPre_table_6_Kernel : Cert.Pre_table_6_Kernel.Facts] : Prop :=
  ∀ (m : (ℓ : Loc Cert.Kernel.nD Cert.Kernel.τ Cert.Kernel.sig) → Buf (Elt Bits) ℓ) (g : Dev Cert.Kernel.nD → PrngReg), Pre_Kernel_table_6_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_table_7_Kernel [hKernel : Cert.Kernel.Facts] [hPre_table_7_Kernel : Cert.Pre_table_7_Kernel.Facts] : Prop :=
  ∀ (m : (ℓ : Loc Cert.Kernel.nD Cert.Kernel.τ Cert.Kernel.sig) → Buf (Elt Bits) ℓ) (g : Dev Cert.Kernel.nD → PrngReg), Pre_Kernel_table_7_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_table_8_Kernel [hKernel : Cert.Kernel.Facts] [hPre_table_8_Kernel : Cert.Pre_table_8_Kernel.Facts] : Prop :=
  ∀ (m : (ℓ : Loc Cert.Kernel.nD Cert.Kernel.τ Cert.Kernel.sig) → Buf (Elt Bits) ℓ) (g : Dev Cert.Kernel.nD → PrngReg), Pre_Kernel_table_8_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_table_9_Kernel [hKernel : Cert.Kernel.Facts] [hPre_table_9_Kernel : Cert.Pre_table_9_Kernel.Facts] : Prop :=
  ∀ (m : (ℓ : Loc Cert.Kernel.nD Cert.Kernel.τ Cert.Kernel.sig) → Buf (Elt Bits) ℓ) (g : Dev Cert.Kernel.nD → PrngReg), Pre_Kernel_table_9_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_table_10_Kernel [hKernel : Cert.Kernel.Facts] [hPre_table_10_Kernel : Cert.Pre_table_10_Kernel.Facts] : Prop :=
  ∀ (m : (ℓ : Loc Cert.Kernel.nD Cert.Kernel.τ Cert.Kernel.sig) → Buf (Elt Bits) ℓ) (g : Dev Cert.Kernel.nD → PrngReg), Pre_Kernel_table_10_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_table_11_Kernel [hKernel : Cert.Kernel.Facts] [hPre_table_11_Kernel : Cert.Pre_table_11_Kernel.Facts] : Prop :=
  ∀ (m : (ℓ : Loc Cert.Kernel.nD Cert.Kernel.τ Cert.Kernel.sig) → Buf (Elt Bits) ℓ) (g : Dev Cert.Kernel.nD → PrngReg), Pre_Kernel_table_11_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_table_12_Kernel [hKernel : Cert.Kernel.Facts] [hPre_table_12_Kernel : Cert.Pre_table_12_Kernel.Facts] : Prop :=
  ∀ (m : (ℓ : Loc Cert.Kernel.nD Cert.Kernel.τ Cert.Kernel.sig) → Buf (Elt Bits) ℓ) (g : Dev Cert.Kernel.nD → PrngReg), Pre_Kernel_table_12_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_table_13_Kernel [hKernel : Cert.Kernel.Facts] [hPre_table_13_Kernel : Cert.Pre_table_13_Kernel.Facts] : Prop :=
  ∀ (m : (ℓ : Loc Cert.Kernel.nD Cert.Kernel.τ Cert.Kernel.sig) → Buf (Elt Bits) ℓ) (g : Dev Cert.Kernel.nD → PrngReg), Pre_Kernel_table_13_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_table_14_Kernel [hKernel : Cert.Kernel.Facts] [hPre_table_14_Kernel : Cert.Pre_table_14_Kernel.Facts] : Prop :=
  ∀ (m : (ℓ : Loc Cert.Kernel.nD Cert.Kernel.τ Cert.Kernel.sig) → Buf (Elt Bits) ℓ) (g : Dev Cert.Kernel.nD → PrngReg), Pre_Kernel_table_14_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_table_15_Kernel [hKernel : Cert.Kernel.Facts] [hPre_table_15_Kernel : Cert.Pre_table_15_Kernel.Facts] : Prop :=
  ∀ (m : (ℓ : Loc Cert.Kernel.nD Cert.Kernel.τ Cert.Kernel.sig) → Buf (Elt Bits) ℓ) (g : Dev Cert.Kernel.nD → PrngReg), Pre_Kernel_table_15_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_table_1_Kernel : Cert.Pre_table_1_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_table_2_Kernel [hKernelIdeal : Cert.KernelIdeal.Facts] [hPre_table_2_Kernel : Cert.Pre_table_2_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_table_2_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_table_3_Kernel [hKernelIdeal : Cert.KernelIdeal.Facts] [hPre_table_3_Kernel : Cert.Pre_table_3_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_table_3_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_table_4_Kernel [hKernelIdeal : Cert.KernelIdeal.Facts] [hPre_table_4_Kernel : Cert.Pre_table_4_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_table_4_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_table_5_Kernel [hKernelIdeal : Cert.KernelIdeal.Facts] [hPre_table_5_Kernel : Cert.Pre_table_5_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_table_5_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_table_6_Kernel [hKernelIdeal : Cert.KernelIdeal.Facts] [hPre_table_6_Kernel : Cert.Pre_table_6_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_table_6_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_table_7_Kernel [hKernelIdeal : Cert.KernelIdeal.Facts] [hPre_table_7_Kernel : Cert.Pre_table_7_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_table_7_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_table_8_Kernel [hKernelIdeal : Cert.KernelIdeal.Facts] [hPre_table_8_Kernel : Cert.Pre_table_8_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_table_8_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_table_9_Kernel [hKernelIdeal : Cert.KernelIdeal.Facts] [hPre_table_9_Kernel : Cert.Pre_table_9_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_table_9_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_table_10_Kernel [hKernelIdeal : Cert.KernelIdeal.Facts] [hPre_table_10_Kernel : Cert.Pre_table_10_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_table_10_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_table_11_Kernel [hKernelIdeal : Cert.KernelIdeal.Facts] [hPre_table_11_Kernel : Cert.Pre_table_11_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_table_11_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_table_12_Kernel [hKernelIdeal : Cert.KernelIdeal.Facts] [hPre_table_12_Kernel : Cert.Pre_table_12_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_table_12_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_table_13_Kernel [hKernelIdeal : Cert.KernelIdeal.Facts] [hPre_table_13_Kernel : Cert.Pre_table_13_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_table_13_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_table_14_Kernel [hKernelIdeal : Cert.KernelIdeal.Facts] [hPre_table_14_Kernel : Cert.Pre_table_14_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_table_14_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_table_15_Kernel [hKernelIdeal : Cert.KernelIdeal.Facts] [hPre_table_15_Kernel : Cert.Pre_table_15_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_table_15_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_table_1_Kernel : Cert.Pre_table_1_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![1, 512, 512]⟩ ⟨3, ![16, 512, 512]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![16, 512, 512]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_table_2_Kernel [hKernelIdeal : Cert.KernelIdeal.Facts] [hReferenceIdeal : Cert.ReferenceIdeal.Facts] [hPre_table_2_Kernel : Cert.Pre_table_2_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_table_2_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![16, 512, 512]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![16, 512, 512]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_table_3_Kernel [hKernelIdeal : Cert.KernelIdeal.Facts] [hReferenceIdeal : Cert.ReferenceIdeal.Facts] [hPre_table_3_Kernel : Cert.Pre_table_3_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_table_3_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![16, 512, 512]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![16, 512, 512]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_table_4_Kernel [hKernelIdeal : Cert.KernelIdeal.Facts] [hReferenceIdeal : Cert.ReferenceIdeal.Facts] [hPre_table_4_Kernel : Cert.Pre_table_4_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_table_4_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![16, 512, 512]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![16, 512, 512]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_table_5_Kernel [hKernelIdeal : Cert.KernelIdeal.Facts] [hReferenceIdeal : Cert.ReferenceIdeal.Facts] [hPre_table_5_Kernel : Cert.Pre_table_5_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_table_5_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![16, 512, 512]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![16, 512, 512]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_table_6_Kernel [hKernelIdeal : Cert.KernelIdeal.Facts] [hReferenceIdeal : Cert.ReferenceIdeal.Facts] [hPre_table_6_Kernel : Cert.Pre_table_6_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_table_6_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![16, 512, 512]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![16, 512, 512]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_table_7_Kernel [hKernelIdeal : Cert.KernelIdeal.Facts] [hReferenceIdeal : Cert.ReferenceIdeal.Facts] [hPre_table_7_Kernel : Cert.Pre_table_7_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_table_7_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![16, 512, 512]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![16, 512, 512]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_table_8_Kernel [hKernelIdeal : Cert.KernelIdeal.Facts] [hReferenceIdeal : Cert.ReferenceIdeal.Facts] [hPre_table_8_Kernel : Cert.Pre_table_8_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_table_8_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![16, 512, 512]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![16, 512, 512]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_table_9_Kernel [hKernelIdeal : Cert.KernelIdeal.Facts] [hReferenceIdeal : Cert.ReferenceIdeal.Facts] [hPre_table_9_Kernel : Cert.Pre_table_9_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_table_9_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![16, 512, 512]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![16, 512, 512]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_table_10_Kernel [hKernelIdeal : Cert.KernelIdeal.Facts] [hReferenceIdeal : Cert.ReferenceIdeal.Facts] [hPre_table_10_Kernel : Cert.Pre_table_10_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_table_10_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![16, 512, 512]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![16, 512, 512]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_table_11_Kernel [hKernelIdeal : Cert.KernelIdeal.Facts] [hReferenceIdeal : Cert.ReferenceIdeal.Facts] [hPre_table_11_Kernel : Cert.Pre_table_11_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_table_11_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![16, 512, 512]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![16, 512, 512]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_table_12_Kernel [hKernelIdeal : Cert.KernelIdeal.Facts] [hReferenceIdeal : Cert.ReferenceIdeal.Facts] [hPre_table_12_Kernel : Cert.Pre_table_12_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_table_12_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![16, 512, 512]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![16, 512, 512]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_table_13_Kernel [hKernelIdeal : Cert.KernelIdeal.Facts] [hReferenceIdeal : Cert.ReferenceIdeal.Facts] [hPre_table_13_Kernel : Cert.Pre_table_13_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_table_13_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![16, 512, 512]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![16, 512, 512]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_table_14_Kernel [hKernelIdeal : Cert.KernelIdeal.Facts] [hReferenceIdeal : Cert.ReferenceIdeal.Facts] [hPre_table_14_Kernel : Cert.Pre_table_14_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_table_14_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![16, 512, 512]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![16, 512, 512]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_table_15_Kernel [hKernelIdeal : Cert.KernelIdeal.Facts] [hReferenceIdeal : Cert.ReferenceIdeal.Facts] [hPre_table_15_Kernel : Cert.Pre_table_15_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_table_15_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![16, 512, 512]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![16, 512, 512]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hReferenceIdeal : Cert.ReferenceIdeal.Facts) (hKernel : Cert.Kernel.Facts) (hKernelIdeal : Cert.KernelIdeal.Facts) (hPre_table_1_ReferenceIdeal : Cert.Pre_table_1_ReferenceIdeal.Facts) (hPre_table_2_ReferenceIdeal : Cert.Pre_table_2_ReferenceIdeal.Facts) (hPre_table_3_ReferenceIdeal : Cert.Pre_table_3_ReferenceIdeal.Facts) (hPre_table_4_ReferenceIdeal : Cert.Pre_table_4_ReferenceIdeal.Facts) (hPre_table_5_ReferenceIdeal : Cert.Pre_table_5_ReferenceIdeal.Facts) (hPre_table_6_ReferenceIdeal : Cert.Pre_table_6_ReferenceIdeal.Facts) (hPre_table_7_ReferenceIdeal : Cert.Pre_table_7_ReferenceIdeal.Facts) (hPre_table_8_ReferenceIdeal : Cert.Pre_table_8_ReferenceIdeal.Facts) (hPre_table_9_ReferenceIdeal : Cert.Pre_table_9_ReferenceIdeal.Facts) (hPre_table_10_ReferenceIdeal : Cert.Pre_table_10_ReferenceIdeal.Facts) (hPre_table_11_ReferenceIdeal : Cert.Pre_table_11_ReferenceIdeal.Facts) (hPre_table_12_ReferenceIdeal : Cert.Pre_table_12_ReferenceIdeal.Facts) (hPre_table_13_ReferenceIdeal : Cert.Pre_table_13_ReferenceIdeal.Facts) (hPre_table_14_ReferenceIdeal : Cert.Pre_table_14_ReferenceIdeal.Facts) (hPre_table_15_ReferenceIdeal : Cert.Pre_table_15_ReferenceIdeal.Facts) (hPre_table_1_Kernel : Cert.Pre_table_1_Kernel.Facts) (hPre_table_2_Kernel : Cert.Pre_table_2_Kernel.Facts) (hPre_table_3_Kernel : Cert.Pre_table_3_Kernel.Facts) (hPre_table_4_Kernel : Cert.Pre_table_4_Kernel.Facts) (hPre_table_5_Kernel : Cert.Pre_table_5_Kernel.Facts) (hPre_table_6_Kernel : Cert.Pre_table_6_Kernel.Facts) (hPre_table_7_Kernel : Cert.Pre_table_7_Kernel.Facts) (hPre_table_8_Kernel : Cert.Pre_table_8_Kernel.Facts) (hPre_table_9_Kernel : Cert.Pre_table_9_Kernel.Facts) (hPre_table_10_Kernel : Cert.Pre_table_10_Kernel.Facts) (hPre_table_11_Kernel : Cert.Pre_table_11_Kernel.Facts) (hPre_table_12_Kernel : Cert.Pre_table_12_Kernel.Facts) (hPre_table_13_Kernel : Cert.Pre_table_13_Kernel.Facts) (hPre_table_14_Kernel : Cert.Pre_table_14_Kernel.Facts) (hPre_table_15_Kernel : Cert.Pre_table_15_Kernel.Facts),
    quiescent_ReferenceIdeal (hReferenceIdeal := hReferenceIdeal)
    ∧ quiescent_ReferenceIdeal_pre_table_1_ReferenceIdeal (hReferenceIdeal := hReferenceIdeal) (hPre_table_1_ReferenceIdeal := hPre_table_1_ReferenceIdeal)
    ∧ quiescent_ReferenceIdeal_pre_table_2_ReferenceIdeal (hReferenceIdeal := hReferenceIdeal) (hPre_table_2_ReferenceIdeal := hPre_table_2_ReferenceIdeal)
    ∧ quiescent_ReferenceIdeal_pre_table_3_ReferenceIdeal (hReferenceIdeal := hReferenceIdeal) (hPre_table_3_ReferenceIdeal := hPre_table_3_ReferenceIdeal)
    ∧ quiescent_ReferenceIdeal_pre_table_4_ReferenceIdeal (hReferenceIdeal := hReferenceIdeal) (hPre_table_4_ReferenceIdeal := hPre_table_4_ReferenceIdeal)
    ∧ quiescent_ReferenceIdeal_pre_table_5_ReferenceIdeal (hReferenceIdeal := hReferenceIdeal) (hPre_table_5_ReferenceIdeal := hPre_table_5_ReferenceIdeal)
    ∧ quiescent_ReferenceIdeal_pre_table_6_ReferenceIdeal (hReferenceIdeal := hReferenceIdeal) (hPre_table_6_ReferenceIdeal := hPre_table_6_ReferenceIdeal)
    ∧ quiescent_ReferenceIdeal_pre_table_7_ReferenceIdeal (hReferenceIdeal := hReferenceIdeal) (hPre_table_7_ReferenceIdeal := hPre_table_7_ReferenceIdeal)
    ∧ quiescent_ReferenceIdeal_pre_table_8_ReferenceIdeal (hReferenceIdeal := hReferenceIdeal) (hPre_table_8_ReferenceIdeal := hPre_table_8_ReferenceIdeal)
    ∧ quiescent_ReferenceIdeal_pre_table_9_ReferenceIdeal (hReferenceIdeal := hReferenceIdeal) (hPre_table_9_ReferenceIdeal := hPre_table_9_ReferenceIdeal)
    ∧ quiescent_ReferenceIdeal_pre_table_10_ReferenceIdeal (hReferenceIdeal := hReferenceIdeal) (hPre_table_10_ReferenceIdeal := hPre_table_10_ReferenceIdeal)
    ∧ quiescent_ReferenceIdeal_pre_table_11_ReferenceIdeal (hReferenceIdeal := hReferenceIdeal) (hPre_table_11_ReferenceIdeal := hPre_table_11_ReferenceIdeal)
    ∧ quiescent_ReferenceIdeal_pre_table_12_ReferenceIdeal (hReferenceIdeal := hReferenceIdeal) (hPre_table_12_ReferenceIdeal := hPre_table_12_ReferenceIdeal)
    ∧ quiescent_ReferenceIdeal_pre_table_13_ReferenceIdeal (hReferenceIdeal := hReferenceIdeal) (hPre_table_13_ReferenceIdeal := hPre_table_13_ReferenceIdeal)
    ∧ quiescent_ReferenceIdeal_pre_table_14_ReferenceIdeal (hReferenceIdeal := hReferenceIdeal) (hPre_table_14_ReferenceIdeal := hPre_table_14_ReferenceIdeal)
    ∧ quiescent_ReferenceIdeal_pre_table_15_ReferenceIdeal (hReferenceIdeal := hReferenceIdeal) (hPre_table_15_ReferenceIdeal := hPre_table_15_ReferenceIdeal)
    ∧ quiescent_Kernel (hKernel := hKernel) (hPre_table_1_Kernel := hPre_table_1_Kernel)
    ∧ quiescent_Kernel_pre_table_2_Kernel (hKernel := hKernel) (hPre_table_2_Kernel := hPre_table_2_Kernel)
    ∧ quiescent_Kernel_pre_table_3_Kernel (hKernel := hKernel) (hPre_table_3_Kernel := hPre_table_3_Kernel)
    ∧ quiescent_Kernel_pre_table_4_Kernel (hKernel := hKernel) (hPre_table_4_Kernel := hPre_table_4_Kernel)
    ∧ quiescent_Kernel_pre_table_5_Kernel (hKernel := hKernel) (hPre_table_5_Kernel := hPre_table_5_Kernel)
    ∧ quiescent_Kernel_pre_table_6_Kernel (hKernel := hKernel) (hPre_table_6_Kernel := hPre_table_6_Kernel)
    ∧ quiescent_Kernel_pre_table_7_Kernel (hKernel := hKernel) (hPre_table_7_Kernel := hPre_table_7_Kernel)
    ∧ quiescent_Kernel_pre_table_8_Kernel (hKernel := hKernel) (hPre_table_8_Kernel := hPre_table_8_Kernel)
    ∧ quiescent_Kernel_pre_table_9_Kernel (hKernel := hKernel) (hPre_table_9_Kernel := hPre_table_9_Kernel)
    ∧ quiescent_Kernel_pre_table_10_Kernel (hKernel := hKernel) (hPre_table_10_Kernel := hPre_table_10_Kernel)
    ∧ quiescent_Kernel_pre_table_11_Kernel (hKernel := hKernel) (hPre_table_11_Kernel := hPre_table_11_Kernel)
    ∧ quiescent_Kernel_pre_table_12_Kernel (hKernel := hKernel) (hPre_table_12_Kernel := hPre_table_12_Kernel)
    ∧ quiescent_Kernel_pre_table_13_Kernel (hKernel := hKernel) (hPre_table_13_Kernel := hPre_table_13_Kernel)
    ∧ quiescent_Kernel_pre_table_14_Kernel (hKernel := hKernel) (hPre_table_14_Kernel := hPre_table_14_Kernel)
    ∧ quiescent_Kernel_pre_table_15_Kernel (hKernel := hKernel) (hPre_table_15_Kernel := hPre_table_15_Kernel)
    ∧ quiescent_KernelIdeal (hKernelIdeal := hKernelIdeal) (hPre_table_1_Kernel := hPre_table_1_Kernel)
    ∧ quiescent_KernelIdeal_pre_table_2_Kernel (hKernelIdeal := hKernelIdeal) (hPre_table_2_Kernel := hPre_table_2_Kernel)
    ∧ quiescent_KernelIdeal_pre_table_3_Kernel (hKernelIdeal := hKernelIdeal) (hPre_table_3_Kernel := hPre_table_3_Kernel)
    ∧ quiescent_KernelIdeal_pre_table_4_Kernel (hKernelIdeal := hKernelIdeal) (hPre_table_4_Kernel := hPre_table_4_Kernel)
    ∧ quiescent_KernelIdeal_pre_table_5_Kernel (hKernelIdeal := hKernelIdeal) (hPre_table_5_Kernel := hPre_table_5_Kernel)
    ∧ quiescent_KernelIdeal_pre_table_6_Kernel (hKernelIdeal := hKernelIdeal) (hPre_table_6_Kernel := hPre_table_6_Kernel)
    ∧ quiescent_KernelIdeal_pre_table_7_Kernel (hKernelIdeal := hKernelIdeal) (hPre_table_7_Kernel := hPre_table_7_Kernel)
    ∧ quiescent_KernelIdeal_pre_table_8_Kernel (hKernelIdeal := hKernelIdeal) (hPre_table_8_Kernel := hPre_table_8_Kernel)
    ∧ quiescent_KernelIdeal_pre_table_9_Kernel (hKernelIdeal := hKernelIdeal) (hPre_table_9_Kernel := hPre_table_9_Kernel)
    ∧ quiescent_KernelIdeal_pre_table_10_Kernel (hKernelIdeal := hKernelIdeal) (hPre_table_10_Kernel := hPre_table_10_Kernel)
    ∧ quiescent_KernelIdeal_pre_table_11_Kernel (hKernelIdeal := hKernelIdeal) (hPre_table_11_Kernel := hPre_table_11_Kernel)
    ∧ quiescent_KernelIdeal_pre_table_12_Kernel (hKernelIdeal := hKernelIdeal) (hPre_table_12_Kernel := hPre_table_12_Kernel)
    ∧ quiescent_KernelIdeal_pre_table_13_Kernel (hKernelIdeal := hKernelIdeal) (hPre_table_13_Kernel := hPre_table_13_Kernel)
    ∧ quiescent_KernelIdeal_pre_table_14_Kernel (hKernelIdeal := hKernelIdeal) (hPre_table_14_Kernel := hPre_table_14_Kernel)
    ∧ quiescent_KernelIdeal_pre_table_15_Kernel (hKernelIdeal := hKernelIdeal) (hPre_table_15_Kernel := hPre_table_15_Kernel)
    ∧ preserves_Kernel_KernelIdeal
    ∧ algebraic_KernelIdeal_ReferenceIdeal (hKernelIdeal := hKernelIdeal) (hReferenceIdeal := hReferenceIdeal) (hPre_table_1_Kernel := hPre_table_1_Kernel)
    ∧ algebraic_KernelIdeal_ReferenceIdeal_pre_table_2_Kernel (hKernelIdeal := hKernelIdeal) (hReferenceIdeal := hReferenceIdeal) (hPre_table_2_Kernel := hPre_table_2_Kernel)
    ∧ algebraic_KernelIdeal_ReferenceIdeal_pre_table_3_Kernel (hKernelIdeal := hKernelIdeal) (hReferenceIdeal := hReferenceIdeal) (hPre_table_3_Kernel := hPre_table_3_Kernel)
    ∧ algebraic_KernelIdeal_ReferenceIdeal_pre_table_4_Kernel (hKernelIdeal := hKernelIdeal) (hReferenceIdeal := hReferenceIdeal) (hPre_table_4_Kernel := hPre_table_4_Kernel)
    ∧ algebraic_KernelIdeal_ReferenceIdeal_pre_table_5_Kernel (hKernelIdeal := hKernelIdeal) (hReferenceIdeal := hReferenceIdeal) (hPre_table_5_Kernel := hPre_table_5_Kernel)
    ∧ algebraic_KernelIdeal_ReferenceIdeal_pre_table_6_Kernel (hKernelIdeal := hKernelIdeal) (hReferenceIdeal := hReferenceIdeal) (hPre_table_6_Kernel := hPre_table_6_Kernel)
    ∧ algebraic_KernelIdeal_ReferenceIdeal_pre_table_7_Kernel (hKernelIdeal := hKernelIdeal) (hReferenceIdeal := hReferenceIdeal) (hPre_table_7_Kernel := hPre_table_7_Kernel)
    ∧ algebraic_KernelIdeal_ReferenceIdeal_pre_table_8_Kernel (hKernelIdeal := hKernelIdeal) (hReferenceIdeal := hReferenceIdeal) (hPre_table_8_Kernel := hPre_table_8_Kernel)
    ∧ algebraic_KernelIdeal_ReferenceIdeal_pre_table_9_Kernel (hKernelIdeal := hKernelIdeal) (hReferenceIdeal := hReferenceIdeal) (hPre_table_9_Kernel := hPre_table_9_Kernel)
    ∧ algebraic_KernelIdeal_ReferenceIdeal_pre_table_10_Kernel (hKernelIdeal := hKernelIdeal) (hReferenceIdeal := hReferenceIdeal) (hPre_table_10_Kernel := hPre_table_10_Kernel)
    ∧ algebraic_KernelIdeal_ReferenceIdeal_pre_table_11_Kernel (hKernelIdeal := hKernelIdeal) (hReferenceIdeal := hReferenceIdeal) (hPre_table_11_Kernel := hPre_table_11_Kernel)
    ∧ algebraic_KernelIdeal_ReferenceIdeal_pre_table_12_Kernel (hKernelIdeal := hKernelIdeal) (hReferenceIdeal := hReferenceIdeal) (hPre_table_12_Kernel := hPre_table_12_Kernel)
    ∧ algebraic_KernelIdeal_ReferenceIdeal_pre_table_13_Kernel (hKernelIdeal := hKernelIdeal) (hReferenceIdeal := hReferenceIdeal) (hPre_table_13_Kernel := hPre_table_13_Kernel)
    ∧ algebraic_KernelIdeal_ReferenceIdeal_pre_table_14_Kernel (hKernelIdeal := hKernelIdeal) (hReferenceIdeal := hReferenceIdeal) (hPre_table_14_Kernel := hPre_table_14_Kernel)
    ∧ algebraic_KernelIdeal_ReferenceIdeal_pre_table_15_Kernel (hKernelIdeal := hKernelIdeal) (hReferenceIdeal := hReferenceIdeal) (hPre_table_15_Kernel := hPre_table_15_Kernel)
-- ==== Pre_table_10_Kernel.lean ====
abbrev S1x512x512 : Shape := ⟨3, ![1, 512, 512]⟩
abbrev S16 : Shape := ⟨1, ![16]⟩
abbrev S_ : Shape := ⟨0, ![]⟩

class Facts : Prop where
  bcast_S_S16 : S_.BroadcastsInDim S16 (![] : Fin 0 → Fin S16.rank)

variable [Facts]

def fn {F : FTy → Type} [FloatOps F] (main_arg0 : FVec F S1x512x512 .bf16) (main_arg1 : IVec S16 32) : IVec S16 1 :=
  let main_v0 : IVec S16 32 := iotaInDim S16 32 0
  let main_c : IVec S_ 32 := constantI S_ 32 10#32
  let main_v1 : IVec S16 32 := broadcastInDim S16 ![] bcast_S_S16 main_c
  let main_v2 : IVec S16 32 := addi main_v0 main_v1
  let main_c_0 : IVec S_ 32 := constantI S_ 32 15#32
  let main_v3 : IVec S16 32 := broadcastInDim S16 ![] bcast_S_S16 main_c_0
  let main_v4 : IVec S16 32 := andi main_v2 main_v3
  let main_v5 : IVec S16 1 := cmpi .eq main_arg1 main_v4
  main_v5
-- ==== Pre_table_10_ReferenceIdeal.lean ====
abbrev S16x512x512 : Shape := ⟨3, ![16, 512, 512]⟩
abbrev S16 : Shape := ⟨1, ![16]⟩
abbrev S_ : Shape := ⟨0, ![]⟩

class Facts : Prop where
  bcast_S_S16 : S_.BroadcastsInDim S16 (![] : Fin 0 → Fin S16.rank)

variable [Facts]

def fn {F : FTy → Type} [FloatOps F] (main_arg0 : FVec F S16x512x512 .bf16) (main_arg1 : IVec S16 32) : IVec S16 1 :=
  let main_v0 : IVec S16 32 := iotaInDim S16 32 0
  let main_c : IVec S_ 32 := constantI S_ 32 10#32
  let main_v1 : IVec S16 32 := broadcastInDim S16 ![] bcast_S_S16 main_c
  let main_v2 : IVec S16 32 := addi main_v0 main_v1
  let main_c_0 : IVec S_ 32 := constantI S_ 32 15#32
  let main_v3 : IVec S16 32 := broadcastInDim S16 ![] bcast_S_S16 main_c_0
  let main_v4 : IVec S16 32 := andi main_v2 main_v3
  let main_v5 : IVec S16 1 := cmpi .eq main_arg1 main_v4
  main_v5
-- ==== Pre_table_11_Kernel.lean ====
abbrev S1x512x512 : Shape := ⟨3, ![1, 512, 512]⟩
abbrev S16 : Shape := ⟨1, ![16]⟩
abbrev S_ : Shape := ⟨0, ![]⟩

class Facts : Prop where
  bcast_S_S16 : S_.BroadcastsInDim S16 (![] : Fin 0 → Fin S16.rank)

variable [Facts]

def fn {F : FTy → Type} [FloatOps F] (main_arg0 : FVec F S1x512x512 .bf16) (main_arg1 : IVec S16 32) : IVec S16 1 :=
  let main_v0 : IVec S16 32 := iotaInDim S16 32 0
  let main_c : IVec S_ 32 := constantI S_ 32 11#32
  let main_v1 : IVec S16 32 := broadcastInDim S16 ![] bcast_S_S16 main_c
  let main_v2 : IVec S16 32 := addi main_v0 main_v1
  let main_c_0 : IVec S_ 32 := constantI S_ 32 15#32
  let main_v3 : IVec S16 32 := broadcastInDim S16 ![] bcast_S_S16 main_c_0
  let main_v4 : IVec S16 32 := andi main_v2 main_v3
  let main_v5 : IVec S16 1 := cmpi .eq main_arg1 main_v4
  main_v5
-- ==== Pre_table_11_ReferenceIdeal.lean ====
abbrev S16x512x512 : Shape := ⟨3, ![16, 512, 512]⟩
abbrev S16 : Shape := ⟨1, ![16]⟩
abbrev S_ : Shape := ⟨0, ![]⟩

class Facts : Prop where
  bcast_S_S16 : S_.BroadcastsInDim S16 (![] : Fin 0 → Fin S16.rank)

variable [Facts]

def fn {F : FTy → Type} [FloatOps F] (main_arg0 : FVec F S16x512x512 .bf16) (main_arg1 : IVec S16 32) : IVec S16 1 :=
  let main_v0 : IVec S16 32 := iotaInDim S16 32 0
  let main_c : IVec S_ 32 := constantI S_ 32 11#32
  let main_v1 : IVec S16 32 := broadcastInDim S16 ![] bcast_S_S16 main_c
  let main_v2 : IVec S16 32 := addi main_v0 main_v1
  let main_c_0 : IVec S_ 32 := constantI S_ 32 15#32
  let main_v3 : IVec S16 32 := broadcastInDim S16 ![] bcast_S_S16 main_c_0
  let main_v4 : IVec S16 32 := andi main_v2 main_v3
  let main_v5 : IVec S16 1 := cmpi .eq main_arg1 main_v4
  main_v5
-- ==== Pre_table_12_Kernel.lean ====
abbrev S1x512x512 : Shape := ⟨3, ![1, 512, 512]⟩
abbrev S16 : Shape := ⟨1, ![16]⟩
abbrev S_ : Shape := ⟨0, ![]⟩

class Facts : Prop where
  bcast_S_S16 : S_.BroadcastsInDim S16 (![] : Fin 0 → Fin S16.rank)

variable [Facts]

def fn {F : FTy → Type} [FloatOps F] (main_arg0 : FVec F S1x512x512 .bf16) (main_arg1 : IVec S16 32) : IVec S16 1 :=
  let main_v0 : IVec S16 32 := iotaInDim S16 32 0
  let main_c : IVec S_ 32 := constantI S_ 32 12#32
  let main_v1 : IVec S16 32 := broadcastInDim S16 ![] bcast_S_S16 main_c
  let main_v2 : IVec S16 32 := addi main_v0 main_v1
  let main_c_0 : IVec S_ 32 := constantI S_ 32 15#32
  let main_v3 : IVec S16 32 := broadcastInDim S16 ![] bcast_S_S16 main_c_0
  let main_v4 : IVec S16 32 := andi main_v2 main_v3
  let main_v5 : IVec S16 1 := cmpi .eq main_arg1 main_v4
  main_v5
-- ==== Pre_table_12_ReferenceIdeal.lean ====
abbrev S16x512x512 : Shape := ⟨3, ![16, 512, 512]⟩
abbrev S16 : Shape := ⟨1, ![16]⟩
abbrev S_ : Shape := ⟨0, ![]⟩

class Facts : Prop where
  bcast_S_S16 : S_.BroadcastsInDim S16 (![] : Fin 0 → Fin S16.rank)

variable [Facts]

def fn {F : FTy → Type} [FloatOps F] (main_arg0 : FVec F S16x512x512 .bf16) (main_arg1 : IVec S16 32) : IVec S16 1 :=
  let main_v0 : IVec S16 32 := iotaInDim S16 32 0
  let main_c : IVec S_ 32 := constantI S_ 32 12#32
  let main_v1 : IVec S16 32 := broadcastInDim S16 ![] bcast_S_S16 main_c
  let main_v2 : IVec S16 32 := addi main_v0 main_v1
  let main_c_0 : IVec S_ 32 := constantI S_ 32 15#32
  let main_v3 : IVec S16 32 := broadcastInDim S16 ![] bcast_S_S16 main_c_0
  let main_v4 : IVec S16 32 := andi main_v2 main_v3
  let main_v5 : IVec S16 1 := cmpi .eq main_arg1 main_v4
  main_v5
-- ==== Pre_table_13_Kernel.lean ====
abbrev S1x512x512 : Shape := ⟨3, ![1, 512, 512]⟩
abbrev S16 : Shape := ⟨1, ![16]⟩
abbrev S_ : Shape := ⟨0, ![]⟩

class Facts : Prop where
  bcast_S_S16 : S_.BroadcastsInDim S16 (![] : Fin 0 → Fin S16.rank)

variable [Facts]

def fn {F : FTy → Type} [FloatOps F] (main_arg0 : FVec F S1x512x512 .bf16) (main_arg1 : IVec S16 32) : IVec S16 1 :=
  let main_v0 : IVec S16 32 := iotaInDim S16 32 0
  let main_c : IVec S_ 32 := constantI S_ 32 13#32
  let main_v1 : IVec S16 32 := broadcastInDim S16 ![] bcast_S_S16 main_c
  let main_v2 : IVec S16 32 := addi main_v0 main_v1
  let main_c_0 : IVec S_ 32 := constantI S_ 32 15#32
  let main_v3 : IVec S16 32 := broadcastInDim S16 ![] bcast_S_S16 main_c_0
  let main_v4 : IVec S16 32 := andi main_v2 main_v3
  let main_v5 : IVec S16 1 := cmpi .eq main_arg1 main_v4
  main_v5
-- ==== Pre_table_13_ReferenceIdeal.lean ====
abbrev S16x512x512 : Shape := ⟨3, ![16, 512, 512]⟩
abbrev S16 : Shape := ⟨1, ![16]⟩
abbrev S_ : Shape := ⟨0, ![]⟩

class Facts : Prop where
  bcast_S_S16 : S_.BroadcastsInDim S16 (![] : Fin 0 → Fin S16.rank)

variable [Facts]

def fn {F : FTy → Type} [FloatOps F] (main_arg0 : FVec F S16x512x512 .bf16) (main_arg1 : IVec S16 32) : IVec S16 1 :=
  let main_v0 : IVec S16 32 := iotaInDim S16 32 0
  let main_c : IVec S_ 32 := constantI S_ 32 13#32
  let main_v1 : IVec S16 32 := broadcastInDim S16 ![] bcast_S_S16 main_c
  let main_v2 : IVec S16 32 := addi main_v0 main_v1
  let main_c_0 : IVec S_ 32 := constantI S_ 32 15#32
  let main_v3 : IVec S16 32 := broadcastInDim S16 ![] bcast_S_S16 main_c_0
  let main_v4 : IVec S16 32 := andi main_v2 main_v3
  let main_v5 : IVec S16 1 := cmpi .eq main_arg1 main_v4
  main_v5
-- ==== Pre_table_14_Kernel.lean ====
abbrev S1x512x512 : Shape := ⟨3, ![1, 512, 512]⟩
abbrev S16 : Shape := ⟨1, ![16]⟩
abbrev S_ : Shape := ⟨0, ![]⟩

class Facts : Prop where
  bcast_S_S16 : S_.BroadcastsInDim S16 (![] : Fin 0 → Fin S16.rank)

variable [Facts]

def fn {F : FTy → Type} [FloatOps F] (main_arg0 : FVec F S1x512x512 .bf16) (main_arg1 : IVec S16 32) : IVec S16 1 :=
  let main_v0 : IVec S16 32 := iotaInDim S16 32 0
  let main_c : IVec S_ 32 := constantI S_ 32 14#32
  let main_v1 : IVec S16 32 := broadcastInDim S16 ![] bcast_S_S16 main_c
  let main_v2 : IVec S16 32 := addi main_v0 main_v1
  let main_c_0 : IVec S_ 32 := constantI S_ 32 15#32
  let main_v3 : IVec S16 32 := broadcastInDim S16 ![] bcast_S_S16 main_c_0
  let main_v4 : IVec S16 32 := andi main_v2 main_v3
  let main_v5 : IVec S16 1 := cmpi .eq main_arg1 main_v4
  main_v5
-- ==== Pre_table_14_ReferenceIdeal.lean ====
abbrev S16x512x512 : Shape := ⟨3, ![16, 512, 512]⟩
abbrev S16 : Shape := ⟨1, ![16]⟩
abbrev S_ : Shape := ⟨0, ![]⟩

class Facts : Prop where
  bcast_S_S16 : S_.BroadcastsInDim S16 (![] : Fin 0 → Fin S16.rank)

variable [Facts]

def fn {F : FTy → Type} [FloatOps F] (main_arg0 : FVec F S16x512x512 .bf16) (main_arg1 : IVec S16 32) : IVec S16 1 :=
  let main_v0 : IVec S16 32 := iotaInDim S16 32 0
  let main_c : IVec S_ 32 := constantI S_ 32 14#32
  let main_v1 : IVec S16 32 := broadcastInDim S16 ![] bcast_S_S16 main_c
  let main_v2 : IVec S16 32 := addi main_v0 main_v1
  let main_c_0 : IVec S_ 32 := constantI S_ 32 15#32
  let main_v3 : IVec S16 32 := broadcastInDim S16 ![] bcast_S_S16 main_c_0
  let main_v4 : IVec S16 32 := andi main_v2 main_v3
  let main_v5 : IVec S16 1 := cmpi .eq main_arg1 main_v4
  main_v5
-- ==== Pre_table_15_Kernel.lean ====
abbrev S1x512x512 : Shape := ⟨3, ![1, 512, 512]⟩
abbrev S16 : Shape := ⟨1, ![16]⟩
abbrev S_ : Shape := ⟨0, ![]⟩

class Facts : Prop where
  bcast_S_S16 : S_.BroadcastsInDim S16 (![] : Fin 0 → Fin S16.rank)

variable [Facts]

def fn {F : FTy → Type} [FloatOps F] (main_arg0 : FVec F S1x512x512 .bf16) (main_arg1 : IVec S16 32) : IVec S16 1 :=
  let main_v0 : IVec S16 32 := iotaInDim S16 32 0
  let main_c : IVec S_ 32 := constantI S_ 32 15#32
  let main_v1 : IVec S16 32 := broadcastInDim S16 ![] bcast_S_S16 main_c
  let main_v2 : IVec S16 32 := addi main_v0 main_v1
  let main_c_0 : IVec S_ 32 := constantI S_ 32 15#32
  let main_v3 : IVec S16 32 := broadcastInDim S16 ![] bcast_S_S16 main_c_0
  let main_v4 : IVec S16 32 := andi main_v2 main_v3
  let main_v5 : IVec S16 1 := cmpi .eq main_arg1 main_v4
  main_v5
-- ==== Pre_table_15_ReferenceIdeal.lean ====
abbrev S16x512x512 : Shape := ⟨3, ![16, 512, 512]⟩
abbrev S16 : Shape := ⟨1, ![16]⟩
abbrev S_ : Shape := ⟨0, ![]⟩

class Facts : Prop where
  bcast_S_S16 : S_.BroadcastsInDim S16 (![] : Fin 0 → Fin S16.rank)

variable [Facts]

def fn {F : FTy → Type} [FloatOps F] (main_arg0 : FVec F S16x512x512 .bf16) (main_arg1 : IVec S16 32) : IVec S16 1 :=
  let main_v0 : IVec S16 32 := iotaInDim S16 32 0
  let main_c : IVec S_ 32 := constantI S_ 32 15#32
  let main_v1 : IVec S16 32 := broadcastInDim S16 ![] bcast_S_S16 main_c
  let main_v2 : IVec S16 32 := addi main_v0 main_v1
  let main_c_0 : IVec S_ 32 := constantI S_ 32 15#32
  let main_v3 : IVec S16 32 := broadcastInDim S16 ![] bcast_S_S16 main_c_0
  let main_v4 : IVec S16 32 := andi main_v2 main_v3
  let main_v5 : IVec S16 1 := cmpi .eq main_arg1 main_v4
  main_v5
-- ==== Pre_table_1_Kernel.lean ====
abbrev S1x512x512 : Shape := ⟨3, ![1, 512, 512]⟩
abbrev S16 : Shape := ⟨1, ![16]⟩
abbrev S_ : Shape := ⟨0, ![]⟩

class Facts : Prop where
  bcast_S_S16 : S_.BroadcastsInDim S16 (![] : Fin 0 → Fin S16.rank)

variable [Facts]

def fn {F : FTy → Type} [FloatOps F] (main_arg0 : FVec F S1x512x512 .bf16) (main_arg1 : IVec S16 32) : IVec S16 1 :=
  let main_v0 : IVec S16 32 := iotaInDim S16 32 0
  let main_c : IVec S_ 32 := constantI S_ 32 1#32
  let main_v1 : IVec S16 32 := broadcastInDim S16 ![] bcast_S_S16 main_c
  let main_v2 : IVec S16 32 := addi main_v0 main_v1
  let main_c_0 : IVec S_ 32 := constantI S_ 32 15#32
  let main_v3 : IVec S16 32 := broadcastInDim S16 ![] bcast_S_S16 main_c_0
  let main_v4 : IVec S16 32 := andi main_v2 main_v3
  let main_v5 : IVec S16 1 := cmpi .eq main_arg1 main_v4
  main_v5
-- ==== Pre_table_1_ReferenceIdeal.lean ====
abbrev S16x512x512 : Shape := ⟨3, ![16, 512, 512]⟩
abbrev S16 : Shape := ⟨1, ![16]⟩
abbrev S_ : Shape := ⟨0, ![]⟩

class Facts : Prop where
  bcast_S_S16 : S_.BroadcastsInDim S16 (![] : Fin 0 → Fin S16.rank)

variable [Facts]

def fn {F : FTy → Type} [FloatOps F] (main_arg0 : FVec F S16x512x512 .bf16) (main_arg1 : IVec S16 32) : IVec S16 1 :=
  let main_v0 : IVec S16 32 := iotaInDim S16 32 0
  let main_c : IVec S_ 32 := constantI S_ 32 1#32
  let main_v1 : IVec S16 32 := broadcastInDim S16 ![] bcast_S_S16 main_c
  let main_v2 : IVec S16 32 := addi main_v0 main_v1
  let main_c_0 : IVec S_ 32 := constantI S_ 32 15#32
  let main_v3 : IVec S16 32 := broadcastInDim S16 ![] bcast_S_S16 main_c_0
  let main_v4 : IVec S16 32 := andi main_v2 main_v3
  let main_v5 : IVec S16 1 := cmpi .eq main_arg1 main_v4
  main_v5
-- ==== Pre_table_2_Kernel.lean ====
abbrev S1x512x512 : Shape := ⟨3, ![1, 512, 512]⟩
abbrev S16 : Shape := ⟨1, ![16]⟩
abbrev S_ : Shape := ⟨0, ![]⟩

class Facts : Prop where
  bcast_S_S16 : S_.BroadcastsInDim S16 (![] : Fin 0 → Fin S16.rank)

variable [Facts]

def fn {F : FTy → Type} [FloatOps F] (main_arg0 : FVec F S1x512x512 .bf16) (main_arg1 : IVec S16 32) : IVec S16 1 :=
  let main_v0 : IVec S16 32 := iotaInDim S16 32 0
  let main_c : IVec S_ 32 := constantI S_ 32 2#32
  let main_v1 : IVec S16 32 := broadcastInDim S16 ![] bcast_S_S16 main_c
  let main_v2 : IVec S16 32 := addi main_v0 main_v1
  let main_c_0 : IVec S_ 32 := constantI S_ 32 15#32
  let main_v3 : IVec S16 32 := broadcastInDim S16 ![] bcast_S_S16 main_c_0
  let main_v4 : IVec S16 32 := andi main_v2 main_v3
  let main_v5 : IVec S16 1 := cmpi .eq main_arg1 main_v4
  main_v5
-- ==== Pre_table_2_ReferenceIdeal.lean ====
abbrev S16x512x512 : Shape := ⟨3, ![16, 512, 512]⟩
abbrev S16 : Shape := ⟨1, ![16]⟩
abbrev S_ : Shape := ⟨0, ![]⟩

class Facts : Prop where
  bcast_S_S16 : S_.BroadcastsInDim S16 (![] : Fin 0 → Fin S16.rank)

variable [Facts]

def fn {F : FTy → Type} [FloatOps F] (main_arg0 : FVec F S16x512x512 .bf16) (main_arg1 : IVec S16 32) : IVec S16 1 :=
  let main_v0 : IVec S16 32 := iotaInDim S16 32 0
  let main_c : IVec S_ 32 := constantI S_ 32 2#32
  let main_v1 : IVec S16 32 := broadcastInDim S16 ![] bcast_S_S16 main_c
  let main_v2 : IVec S16 32 := addi main_v0 main_v1
  let main_c_0 : IVec S_ 32 := constantI S_ 32 15#32
  let main_v3 : IVec S16 32 := broadcastInDim S16 ![] bcast_S_S16 main_c_0
  let main_v4 : IVec S16 32 := andi main_v2 main_v3
  let main_v5 : IVec S16 1 := cmpi .eq main_arg1 main_v4
  main_v5
-- ==== Pre_table_3_Kernel.lean ====
abbrev S1x512x512 : Shape := ⟨3, ![1, 512, 512]⟩
abbrev S16 : Shape := ⟨1, ![16]⟩
abbrev S_ : Shape := ⟨0, ![]⟩

class Facts : Prop where
  bcast_S_S16 : S_.BroadcastsInDim S16 (![] : Fin 0 → Fin S16.rank)

variable [Facts]

def fn {F : FTy → Type} [FloatOps F] (main_arg0 : FVec F S1x512x512 .bf16) (main_arg1 : IVec S16 32) : IVec S16 1 :=
  let main_v0 : IVec S16 32 := iotaInDim S16 32 0
  let main_c : IVec S_ 32 := constantI S_ 32 3#32
  let main_v1 : IVec S16 32 := broadcastInDim S16 ![] bcast_S_S16 main_c
  let main_v2 : IVec S16 32 := addi main_v0 main_v1
  let main_c_0 : IVec S_ 32 := constantI S_ 32 15#32
  let main_v3 : IVec S16 32 := broadcastInDim S16 ![] bcast_S_S16 main_c_0
  let main_v4 : IVec S16 32 := andi main_v2 main_v3
  let main_v5 : IVec S16 1 := cmpi .eq main_arg1 main_v4
  main_v5
-- ==== Pre_table_3_ReferenceIdeal.lean ====
abbrev S16x512x512 : Shape := ⟨3, ![16, 512, 512]⟩
abbrev S16 : Shape := ⟨1, ![16]⟩
abbrev S_ : Shape := ⟨0, ![]⟩

class Facts : Prop where
  bcast_S_S16 : S_.BroadcastsInDim S16 (![] : Fin 0 → Fin S16.rank)

variable [Facts]

def fn {F : FTy → Type} [FloatOps F] (main_arg0 : FVec F S16x512x512 .bf16) (main_arg1 : IVec S16 32) : IVec S16 1 :=
  let main_v0 : IVec S16 32 := iotaInDim S16 32 0
  let main_c : IVec S_ 32 := constantI S_ 32 3#32
  let main_v1 : IVec S16 32 := broadcastInDim S16 ![] bcast_S_S16 main_c
  let main_v2 : IVec S16 32 := addi main_v0 main_v1
  let main_c_0 : IVec S_ 32 := constantI S_ 32 15#32
  let main_v3 : IVec S16 32 := broadcastInDim S16 ![] bcast_S_S16 main_c_0
  let main_v4 : IVec S16 32 := andi main_v2 main_v3
  let main_v5 : IVec S16 1 := cmpi .eq main_arg1 main_v4
  main_v5
-- ==== Pre_table_4_Kernel.lean ====
abbrev S1x512x512 : Shape := ⟨3, ![1, 512, 512]⟩
abbrev S16 : Shape := ⟨1, ![16]⟩
abbrev S_ : Shape := ⟨0, ![]⟩

class Facts : Prop where
  bcast_S_S16 : S_.BroadcastsInDim S16 (![] : Fin 0 → Fin S16.rank)

variable [Facts]

def fn {F : FTy → Type} [FloatOps F] (main_arg0 : FVec F S1x512x512 .bf16) (main_arg1 : IVec S16 32) : IVec S16 1 :=
  let main_v0 : IVec S16 32 := iotaInDim S16 32 0
  let main_c : IVec S_ 32 := constantI S_ 32 4#32
  let main_v1 : IVec S16 32 := broadcastInDim S16 ![] bcast_S_S16 main_c
  let main_v2 : IVec S16 32 := addi main_v0 main_v1
  let main_c_0 : IVec S_ 32 := constantI S_ 32 15#32
  let main_v3 : IVec S16 32 := broadcastInDim S16 ![] bcast_S_S16 main_c_0
  let main_v4 : IVec S16 32 := andi main_v2 main_v3
  let main_v5 : IVec S16 1 := cmpi .eq main_arg1 main_v4
  main_v5
-- ==== Pre_table_4_ReferenceIdeal.lean ====
abbrev S16x512x512 : Shape := ⟨3, ![16, 512, 512]⟩
abbrev S16 : Shape := ⟨1, ![16]⟩
abbrev S_ : Shape := ⟨0, ![]⟩

class Facts : Prop where
  bcast_S_S16 : S_.BroadcastsInDim S16 (![] : Fin 0 → Fin S16.rank)

variable [Facts]

def fn {F : FTy → Type} [FloatOps F] (main_arg0 : FVec F S16x512x512 .bf16) (main_arg1 : IVec S16 32) : IVec S16 1 :=
  let main_v0 : IVec S16 32 := iotaInDim S16 32 0
  let main_c : IVec S_ 32 := constantI S_ 32 4#32
  let main_v1 : IVec S16 32 := broadcastInDim S16 ![] bcast_S_S16 main_c
  let main_v2 : IVec S16 32 := addi main_v0 main_v1
  let main_c_0 : IVec S_ 32 := constantI S_ 32 15#32
  let main_v3 : IVec S16 32 := broadcastInDim S16 ![] bcast_S_S16 main_c_0
  let main_v4 : IVec S16 32 := andi main_v2 main_v3
  let main_v5 : IVec S16 1 := cmpi .eq main_arg1 main_v4
  main_v5
-- ==== Pre_table_5_Kernel.lean ====
abbrev S1x512x512 : Shape := ⟨3, ![1, 512, 512]⟩
abbrev S16 : Shape := ⟨1, ![16]⟩
abbrev S_ : Shape := ⟨0, ![]⟩

class Facts : Prop where
  bcast_S_S16 : S_.BroadcastsInDim S16 (![] : Fin 0 → Fin S16.rank)

variable [Facts]

def fn {F : FTy → Type} [FloatOps F] (main_arg0 : FVec F S1x512x512 .bf16) (main_arg1 : IVec S16 32) : IVec S16 1 :=
  let main_v0 : IVec S16 32 := iotaInDim S16 32 0
  let main_c : IVec S_ 32 := constantI S_ 32 5#32
  let main_v1 : IVec S16 32 := broadcastInDim S16 ![] bcast_S_S16 main_c
  let main_v2 : IVec S16 32 := addi main_v0 main_v1
  let main_c_0 : IVec S_ 32 := constantI S_ 32 15#32
  let main_v3 : IVec S16 32 := broadcastInDim S16 ![] bcast_S_S16 main_c_0
  let main_v4 : IVec S16 32 := andi main_v2 main_v3
  let main_v5 : IVec S16 1 := cmpi .eq main_arg1 main_v4
  main_v5
-- ==== Pre_table_5_ReferenceIdeal.lean ====
abbrev S16x512x512 : Shape := ⟨3, ![16, 512, 512]⟩
abbrev S16 : Shape := ⟨1, ![16]⟩
abbrev S_ : Shape := ⟨0, ![]⟩

class Facts : Prop where
  bcast_S_S16 : S_.BroadcastsInDim S16 (![] : Fin 0 → Fin S16.rank)

variable [Facts]

def fn {F : FTy → Type} [FloatOps F] (main_arg0 : FVec F S16x512x512 .bf16) (main_arg1 : IVec S16 32) : IVec S16 1 :=
  let main_v0 : IVec S16 32 := iotaInDim S16 32 0
  let main_c : IVec S_ 32 := constantI S_ 32 5#32
  let main_v1 : IVec S16 32 := broadcastInDim S16 ![] bcast_S_S16 main_c
  let main_v2 : IVec S16 32 := addi main_v0 main_v1
  let main_c_0 : IVec S_ 32 := constantI S_ 32 15#32
  let main_v3 : IVec S16 32 := broadcastInDim S16 ![] bcast_S_S16 main_c_0
  let main_v4 : IVec S16 32 := andi main_v2 main_v3
  let main_v5 : IVec S16 1 := cmpi .eq main_arg1 main_v4
  main_v5
-- ==== Pre_table_6_Kernel.lean ====
abbrev S1x512x512 : Shape := ⟨3, ![1, 512, 512]⟩
abbrev S16 : Shape := ⟨1, ![16]⟩
abbrev S_ : Shape := ⟨0, ![]⟩

class Facts : Prop where
  bcast_S_S16 : S_.BroadcastsInDim S16 (![] : Fin 0 → Fin S16.rank)

variable [Facts]

def fn {F : FTy → Type} [FloatOps F] (main_arg0 : FVec F S1x512x512 .bf16) (main_arg1 : IVec S16 32) : IVec S16 1 :=
  let main_v0 : IVec S16 32 := iotaInDim S16 32 0
  let main_c : IVec S_ 32 := constantI S_ 32 6#32
  let main_v1 : IVec S16 32 := broadcastInDim S16 ![] bcast_S_S16 main_c
  let main_v2 : IVec S16 32 := addi main_v0 main_v1
  let main_c_0 : IVec S_ 32 := constantI S_ 32 15#32
  let main_v3 : IVec S16 32 := broadcastInDim S16 ![] bcast_S_S16 main_c_0
  let main_v4 : IVec S16 32 := andi main_v2 main_v3
  let main_v5 : IVec S16 1 := cmpi .eq main_arg1 main_v4
  main_v5
-- ==== Pre_table_6_ReferenceIdeal.lean ====
abbrev S16x512x512 : Shape := ⟨3, ![16, 512, 512]⟩
abbrev S16 : Shape := ⟨1, ![16]⟩
abbrev S_ : Shape := ⟨0, ![]⟩

class Facts : Prop where
  bcast_S_S16 : S_.BroadcastsInDim S16 (![] : Fin 0 → Fin S16.rank)

variable [Facts]

def fn {F : FTy → Type} [FloatOps F] (main_arg0 : FVec F S16x512x512 .bf16) (main_arg1 : IVec S16 32) : IVec S16 1 :=
  let main_v0 : IVec S16 32 := iotaInDim S16 32 0
  let main_c : IVec S_ 32 := constantI S_ 32 6#32
  let main_v1 : IVec S16 32 := broadcastInDim S16 ![] bcast_S_S16 main_c
  let main_v2 : IVec S16 32 := addi main_v0 main_v1
  let main_c_0 : IVec S_ 32 := constantI S_ 32 15#32
  let main_v3 : IVec S16 32 := broadcastInDim S16 ![] bcast_S_S16 main_c_0
  let main_v4 : IVec S16 32 := andi main_v2 main_v3
  let main_v5 : IVec S16 1 := cmpi .eq main_arg1 main_v4
  main_v5
-- ==== Pre_table_7_Kernel.lean ====
abbrev S1x512x512 : Shape := ⟨3, ![1, 512, 512]⟩
abbrev S16 : Shape := ⟨1, ![16]⟩
abbrev S_ : Shape := ⟨0, ![]⟩

class Facts : Prop where
  bcast_S_S16 : S_.BroadcastsInDim S16 (![] : Fin 0 → Fin S16.rank)

variable [Facts]

def fn {F : FTy → Type} [FloatOps F] (main_arg0 : FVec F S1x512x512 .bf16) (main_arg1 : IVec S16 32) : IVec S16 1 :=
  let main_v0 : IVec S16 32 := iotaInDim S16 32 0
  let main_c : IVec S_ 32 := constantI S_ 32 7#32
  let main_v1 : IVec S16 32 := broadcastInDim S16 ![] bcast_S_S16 main_c
  let main_v2 : IVec S16 32 := addi main_v0 main_v1
  let main_c_0 : IVec S_ 32 := constantI S_ 32 15#32
  let main_v3 : IVec S16 32 := broadcastInDim S16 ![] bcast_S_S16 main_c_0
  let main_v4 : IVec S16 32 := andi main_v2 main_v3
  let main_v5 : IVec S16 1 := cmpi .eq main_arg1 main_v4
  main_v5
-- ==== Pre_table_7_ReferenceIdeal.lean ====
abbrev S16x512x512 : Shape := ⟨3, ![16, 512, 512]⟩
abbrev S16 : Shape := ⟨1, ![16]⟩
abbrev S_ : Shape := ⟨0, ![]⟩

class Facts : Prop where
  bcast_S_S16 : S_.BroadcastsInDim S16 (![] : Fin 0 → Fin S16.rank)

variable [Facts]

def fn {F : FTy → Type} [FloatOps F] (main_arg0 : FVec F S16x512x512 .bf16) (main_arg1 : IVec S16 32) : IVec S16 1 :=
  let main_v0 : IVec S16 32 := iotaInDim S16 32 0
  let main_c : IVec S_ 32 := constantI S_ 32 7#32
  let main_v1 : IVec S16 32 := broadcastInDim S16 ![] bcast_S_S16 main_c
  let main_v2 : IVec S16 32 := addi main_v0 main_v1
  let main_c_0 : IVec S_ 32 := constantI S_ 32 15#32
  let main_v3 : IVec S16 32 := broadcastInDim S16 ![] bcast_S_S16 main_c_0
  let main_v4 : IVec S16 32 := andi main_v2 main_v3
  let main_v5 : IVec S16 1 := cmpi .eq main_arg1 main_v4
  main_v5
-- ==== Pre_table_8_Kernel.lean ====
abbrev S1x512x512 : Shape := ⟨3, ![1, 512, 512]⟩
abbrev S16 : Shape := ⟨1, ![16]⟩
abbrev S_ : Shape := ⟨0, ![]⟩

class Facts : Prop where
  bcast_S_S16 : S_.BroadcastsInDim S16 (![] : Fin 0 → Fin S16.rank)

variable [Facts]

def fn {F : FTy → Type} [FloatOps F] (main_arg0 : FVec F S1x512x512 .bf16) (main_arg1 : IVec S16 32) : IVec S16 1 :=
  let main_v0 : IVec S16 32 := iotaInDim S16 32 0
  let main_c : IVec S_ 32 := constantI S_ 32 8#32
  let main_v1 : IVec S16 32 := broadcastInDim S16 ![] bcast_S_S16 main_c
  let main_v2 : IVec S16 32 := addi main_v0 main_v1
  let main_c_0 : IVec S_ 32 := constantI S_ 32 15#32
  let main_v3 : IVec S16 32 := broadcastInDim S16 ![] bcast_S_S16 main_c_0
  let main_v4 : IVec S16 32 := andi main_v2 main_v3
  let main_v5 : IVec S16 1 := cmpi .eq main_arg1 main_v4
  main_v5
-- ==== Pre_table_8_ReferenceIdeal.lean ====
abbrev S16x512x512 : Shape := ⟨3, ![16, 512, 512]⟩
abbrev S16 : Shape := ⟨1, ![16]⟩
abbrev S_ : Shape := ⟨0, ![]⟩

class Facts : Prop where
  bcast_S_S16 : S_.BroadcastsInDim S16 (![] : Fin 0 → Fin S16.rank)

variable [Facts]

def fn {F : FTy → Type} [FloatOps F] (main_arg0 : FVec F S16x512x512 .bf16) (main_arg1 : IVec S16 32) : IVec S16 1 :=
  let main_v0 : IVec S16 32 := iotaInDim S16 32 0
  let main_c : IVec S_ 32 := constantI S_ 32 8#32
  let main_v1 : IVec S16 32 := broadcastInDim S16 ![] bcast_S_S16 main_c
  let main_v2 : IVec S16 32 := addi main_v0 main_v1
  let main_c_0 : IVec S_ 32 := constantI S_ 32 15#32
  let main_v3 : IVec S16 32 := broadcastInDim S16 ![] bcast_S_S16 main_c_0
  let main_v4 : IVec S16 32 := andi main_v2 main_v3
  let main_v5 : IVec S16 1 := cmpi .eq main_arg1 main_v4
  main_v5
-- ==== Pre_table_9_Kernel.lean ====
abbrev S1x512x512 : Shape := ⟨3, ![1, 512, 512]⟩
abbrev S16 : Shape := ⟨1, ![16]⟩
abbrev S_ : Shape := ⟨0, ![]⟩

class Facts : Prop where
  bcast_S_S16 : S_.BroadcastsInDim S16 (![] : Fin 0 → Fin S16.rank)

variable [Facts]

def fn {F : FTy → Type} [FloatOps F] (main_arg0 : FVec F S1x512x512 .bf16) (main_arg1 : IVec S16 32) : IVec S16 1 :=
  let main_v0 : IVec S16 32 := iotaInDim S16 32 0
  let main_c : IVec S_ 32 := constantI S_ 32 9#32
  let main_v1 : IVec S16 32 := broadcastInDim S16 ![] bcast_S_S16 main_c
  let main_v2 : IVec S16 32 := addi main_v0 main_v1
  let main_c_0 : IVec S_ 32 := constantI S_ 32 15#32
  let main_v3 : IVec S16 32 := broadcastInDim S16 ![] bcast_S_S16 main_c_0
  let main_v4 : IVec S16 32 := andi main_v2 main_v3
  let main_v5 : IVec S16 1 := cmpi .eq main_arg1 main_v4
  main_v5
-- ==== Pre_table_9_ReferenceIdeal.lean ====
abbrev S16x512x512 : Shape := ⟨3, ![16, 512, 512]⟩
abbrev S16 : Shape := ⟨1, ![16]⟩
abbrev S_ : Shape := ⟨0, ![]⟩

class Facts : Prop where
  bcast_S_S16 : S_.BroadcastsInDim S16 (![] : Fin 0 → Fin S16.rank)

variable [Facts]

def fn {F : FTy → Type} [FloatOps F] (main_arg0 : FVec F S16x512x512 .bf16) (main_arg1 : IVec S16 32) : IVec S16 1 :=
  let main_v0 : IVec S16 32 := iotaInDim S16 32 0
  let main_c : IVec S_ 32 := constantI S_ 32 9#32
  let main_v1 : IVec S16 32 := broadcastInDim S16 ![] bcast_S_S16 main_c
  let main_v2 : IVec S16 32 := addi main_v0 main_v1
  let main_c_0 : IVec S_ 32 := constantI S_ 32 15#32
  let main_v3 : IVec S16 32 := broadcastInDim S16 ![] bcast_S_S16 main_c_0
  let main_v4 : IVec S16 32 := andi main_v2 main_v3
  let main_v5 : IVec S16 1 := cmpi .eq main_arg1 main_v4
  main_v5
-- ==== ReferenceIdeal.lean ====
abbrev S16x512x512 : Shape := ⟨3, ![16, 512, 512]⟩
abbrev S16 : Shape := ⟨1, ![16]⟩
abbrev S_ : Shape := ⟨0, ![]⟩
abbrev S16x1 : Shape := ⟨2, ![16, 1]⟩

abbrev nBuf : Space → Nat
  | .hbm => 16
  | .vmem => 0
  | .smem => 0
  | _ => 0

abbrev bufTy : (tb : Table) → Fin (tcTables nBuf tb) → BufTy
  | .hbm, ⟨0, _⟩ => ⟨S16x512x512, .bf16⟩
  | .hbm, ⟨1, _⟩ => ⟨S16, .i32⟩
  | .hbm, ⟨2, _⟩ => ⟨S16, .i32⟩
  | .hbm, ⟨3, _⟩ => ⟨S16, .i32⟩
  | .hbm, ⟨4, _⟩ => ⟨S16, .i32⟩
  | .hbm, ⟨5, _⟩ => ⟨S_, .i32⟩
  | .hbm, ⟨6, _⟩ => ⟨S16, .i32⟩
  | .hbm, ⟨7, _⟩ => ⟨S16, .i1⟩
  | .hbm, ⟨8, _⟩ => ⟨S_, .i32⟩
  | .hbm, ⟨9, _⟩ => ⟨S16, .i32⟩
  | .hbm, ⟨10, _⟩ => ⟨S16, .i32⟩
  | .hbm, ⟨11, _⟩ => ⟨S16, .i32⟩
  | .hbm, ⟨12, _⟩ => ⟨S16x1, .i32⟩
  | .hbm, ⟨13, _⟩ => ⟨S16x512x512, .bf16⟩
  | .hbm, ⟨14, _⟩ => ⟨S16x512x512, .f32⟩
  | .hbm, ⟨15, _⟩ => ⟨S16x512x512, .bf16⟩
  | _, _ => ⟨S16x512x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Kernel.lean ====
abbrev S1x512x512 : Shape := ⟨3, ![1, 512, 512]⟩
abbrev S16 : Shape := ⟨1, ![16]⟩
abbrev S512x512 : Shape := ⟨2, ![512, 512]⟩
abbrev S_ : Shape := ⟨0, ![]⟩
abbrev S1 : Shape := ⟨1, ![1]⟩

abbrev nBuf : Space → Nat
  | .hbm => 3
  | .vmem => 3
  | .smem => 1
  | _ => 0

abbrev bufTy : (tb : Table) → Fin (tcTables nBuf tb) → BufTy
  | .hbm, ⟨0, _⟩ => ⟨S1x512x512, .bf16⟩
  | .hbm, ⟨1, _⟩ => ⟨S16, .i32⟩
  | .hbm, ⟨2, _⟩ => ⟨S1x512x512, .bf16⟩
  | .local _ .vmem, ⟨0, _⟩ => ⟨S1x512x512, .bf16⟩
  | .local _ .vmem, ⟨1, _⟩ => ⟨S1x512x512, .bf16⟩
  | .local _ .vmem, ⟨2, _⟩ => ⟨S512x512, .bf16⟩
  | .local _ .smem, ⟨0, _⟩ => ⟨S16, .i32⟩
  | _, _ => ⟨S1x512x512, .bf16⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | _, _ => false

abbrev semScoped : Fin 1 → Bool
  | ⟨0, _⟩ => false
  | _ => false

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  (ofTc nBuf bufTy 1 5 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg1_0 : Ref sig .tc := ⟨.vmem, 0, rfl⟩
abbrev cc0_stg2_0 : Ref sig .tc := ⟨.vmem, 1, rfl⟩
abbrev cc0_scratch0 : Ref sig .tc := ⟨.vmem, 2, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_off1 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : Index := Scalar.indexCast v2
  ![v3.toNat]
@[reducible] def k0_t1_loop : Scf.Loop 32 :=
  let c0_i32_0 : BitVec 32 := 0#32
  let c16_i32_1 : BitVec 32 := 16#32
  let v5 : BitVec 32 := Scalar.addi c0_i32_0 c16_i32_1
  let c1_i32_2 : BitVec 32 := 1#32
  ⟨c0_i32_0, v5, c1_i32_2⟩
def k0_off2 (k0_t1 : Fin k0_t1_loop.trips) : Fin 1 → Nat :=
  let c0_i32_0 : BitVec 32 := 0#32
  let c1_i32_2 : BitVec 32 := 1#32
  let arg6 : BitVec 32 := Scf.iv c0_i32_0 c1_i32_2 k0_t1
  let v25 : Index := Scalar.indexCast arg6
  ![v25.toNat]
def k0_dev1 (v6 : BitVec 32) : Nat :=
  let c0_i32_6 : BitVec 32 := 0#32
  let c1_i32_5 : BitVec 32 := 1#32
  let v8 : BitVec 32 := Scalar.muli v6 c1_i32_5
  let v9 : BitVec 32 := Scalar.addi c0_i32_6 v8
  v9.toNat

def k0_chk1 (v6 : BitVec 32) : Prop :=
  ((k0_dev1 v6) < nD)
theorem k0_dev1_lt : ∀ (v6 : BitVec 32) (k0_hw1 : k0_chk1 v6), (k0_dev1 v6) < nD := fun v6 k0_hw1 => k0_hw1

def k0_dev2 (v4 : BitVec 32) : Nat :=
  let c0_i32_14 : BitVec 32 := 0#32
  let c1_i32_13 : BitVec 32 := 1#32
  let v15 : BitVec 32 := Scalar.muli v4 c1_i32_13
  let v16 : BitVec 32 := Scalar.addi c0_i32_14 v15
  v16.toNat

def k0_chk2 (v4 : BitVec 32) : Prop :=
  ((k0_dev2 v4) < nD)
theorem k0_dev2_lt : ∀ (v4 : BitVec 32) (k0_hw2 : k0_chk2 v4), (k0_dev2 v4) < nD := fun v4 k0_hw2 => k0_hw2

abbrev stage0_0 : Fin 1 → Memref sig .tc .smem S16 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Route.lean ====
/-
What the kernel's pure part computes when every device's table spells one permutation.

The kernel sends device `c`'s block to the device its table names, and must first tell the device that will
write into it that it is ready. The receiver is the table's word `c`; the announcer finds its own sender by
a scan of the table for the word that equals its own number. Here: the two words read from a table that
spells `σ` (the receiver is `σ c`, the scan yields `σ⁻¹ c`), and that the bytes a transfer writes into the
receiver's output block are the sender's block of `x`, two re-indexings apart.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
public import Idealize.ShloMosaic.Lib.VecWindow
public import Idealize.ShloMosaic.Lib.Pipeline.Value

@[expose] public section

noncomputable section

namespace Cert.PermProof

open Cert.KernelIdeal Cert.KernelIdeal.Gen
open Idealize.ShloMosaic
open Idealize.ShloMosaic.TcCoe
open Idealize.SL.Sem

variable {F : FTy → Type} [FloatOps F]

/-! ## The table -/

/-- Word `j` of a table of sixteen. -/
def slot (j : Dev nD) : S16.Idx := fun a => ⟨j.val, by fin_cases a; exact j.isLt⟩

/-- A table that spells `σ`: its word `j` is the number of the device `σ j`. -/
def Spells (σ : Equiv.Perm (Dev nD)) (t : IVec S16 32) : Prop := ∀ j, t (slot j) = Dev.word (σ j)

/-- Every device's own copy of the table spells `σ`. -/
def Tables (σ : Equiv.Perm (Dev nD)) (m : (ℓ : Loc nD τ sig) → Buf (Elt F) ℓ) : Prop :=
  ∀ c : Dev nD, Spells σ (m ((c : Thread nD τ).loc main_arg1))

/-- A device's number survives the trip through a word. -/
theorem word_toNat (d : Dev nD) : (Dev.word d).toNat = d.val := by revert d; decide
theorem word_inj {a b : Dev nD} (h : Dev.word a = Dev.word b) : a = b :=
  Fin.ext (by rw [← word_toNat a, ← word_toNat b, h])

/-! ## The memrefs -/

abbrev tM : Memref sig .tc .smem S16 .i32 := Memref.whole cc0_stg0_0
abbrev xM : Memref sig .tc .vmem S1x512x512 .bf16 := Memref.whole cc0_stg1_0
abbrev oM : Memref sig .tc .vmem S1x512x512 .bf16 := Memref.whole cc0_stg2_0
abbrev sM : Memref sig .tc .vmem S512x512 .bf16 := Memref.whole cc0_scratch0

abbrev box3 : Rect S1x512x512 := Rect.unit (s := S1x512x512) ![0, 0, 0] S1x512x512.size inb_S1x512x512_S1x512x512_0_0_0
abbrev box2 : Rect S512x512 := Rect.unit (s := S512x512) ![0, 0] S512x512.size inb_S512x512_S512x512_0_0

/-- The output block with its leading axis of one dropped: what the transfer is addressed to. -/
abbrev dM : Memref sig .tc .vmem S512x512 .bf16 := (oM.slice box3 (fun _ => rfl)).squeeze S512x512 squeezes_S1x512x512_S512x512

theorem zero3 : (![0, 0, 0] : Fin 3 → Nat) = fun _ => 0 := funext fun a => by fin_cases a <;> rfl
theorem zero2 : (![0, 0] : Fin 2 → Nat) = fun _ => 0 := funext fun a => by fin_cases a <;> rfl

/-! ## The two words read -/

/-- The word at the table rectangle whose one offset is `k`. -/
abbrev wordAt (off : Fin 1 → Nat) (h : ∀ a, off a + S1.size a ≤ S16.size a) (ts : (cc0_stg0_0 : Ref sig .tc).ty.Contents (Elt F)) : BitVec 32 :=
  (tM.access (Rect.unit (s := S16) off S1.size h) : View sig .tc _ _ _).read (Elt F) ts (Shape.Idx.first (s := S1) (numel1_S1.symm ▸ Nat.one_pos))

omit [FloatOps F] in
theorem wordAt_eq (off : Fin 1 → Nat) (h : ∀ a, off a + S1.size a ≤ S16.size a) (ts : (cc0_stg0_0 : Ref sig .tc).ty.Contents (Elt F))
    (j : Dev nD) (hj : off = ![j.val]) : wordAt off h ts = (show IVec S16 32 from ts) (slot j) := by
  subst hj
  show (show IVec S16 32 from ts) _ = _
  refine congrArg _ (funext fun a => Fin.ext ?_)
  fin_cases a; rfl

/-- The number the kernel compares with is the device's own. -/
theorem own_word (c : Dev nD) : Scalar.remsi (Scalar.divsi (Dev.word c) 1#32) 16#32 = Dev.word c := by
  revert c; decide

/-- The receiver's and the announcer's device ids, read from a word that is a device's. -/
theorem dev1_word (d : Dev nD) : k0_dev1 (Dev.word d) = d.val := by revert d; decide
theorem dev2_word (d : Dev nD) : k0_dev2 (Dev.word d) = d.val := by revert d; decide
theorem chk1_word (d : Dev nD) : k0_chk1 (Dev.word d) := by unfold k0_chk1; rw [dev1_word]; exact d.isLt
theorem chk2_word (d : Dev nD) : k0_chk2 (Dev.word d) := by unfold k0_chk2; rw [dev2_word]; exact d.isLt

/-! ## The scan -/

theorem trips_eq : k0_t1_loop.trips = 16 := by decide

/-- The device at the scan's position `k`. -/
def posn (k : Fin k0_t1_loop.trips) : Dev nD := ⟨k.val, lt_of_lt_of_eq k.isLt trips_eq⟩

/-- What the scan for `c` carries before trip `k`: the position of `c` once passed, zero until then. -/
def found (σ : Equiv.Perm (Dev nD)) (c : Dev nD) (k : ℕ) : BitVec 32 := if (σ.symm c).val < k then Dev.word (σ.symm c) else 0#32

theorem found_zero (σ : Equiv.Perm (Dev nD)) (c : Dev nD) : found σ c 0 = 0#32 := if_neg (Nat.not_lt_zero _)
theorem found_all (σ : Equiv.Perm (Dev nD)) (c : Dev nD) : found σ c k0_t1_loop.trips = Dev.word (σ.symm c) := by
  rw [trips_eq]; exact if_pos (σ.symm c).isLt

theorem iv_word (k : Fin k0_t1_loop.trips) : Scf.iv 0#32 1#32 k = BitVec.ofNat 32 k.val := by revert k; decide

/-- One trip: the word `k` read, compared, and the position kept if it is the one looked for. -/
theorem found_succ (σ : Equiv.Perm (Dev nD)) (c : Dev nD) (k : Fin k0_t1_loop.trips) (w : BitVec 32)
    (hw : w = Dev.word (σ (posn k))) :
    Scalar.select (Scalar.cmpi .eq w (Scalar.remsi (Scalar.divsi (Dev.word c) 1#32) 16#32)) (Scf.iv 0#32 1#32 k) (found σ c k.val)
      = found σ c (k.val + 1) := by
  have hk : k.val < 16 := (posn k).isLt
  rw [own_word, iv_word, hw]
  by_cases h : σ (posn k) = c
  · have hs : (σ.symm c).val = k.val := by rw [← h, Equiv.symm_apply_apply]; rfl
    have e : Scalar.cmpi .eq (Dev.word (σ (posn k))) (Dev.word c) = 1#1 := by
      rw [h]; show BitVec.ofBool (Dev.word c == Dev.word c) = 1#1; rw [beq_self_eq_true]; rfl
    rw [e]
    unfold found
    rw [if_pos (by omega : (σ.symm c).val < k.val + 1)]
    show BitVec.ofNat 32 k.val = BitVec.ofNat 32 (σ.symm c).val
    rw [hs]
  · have hs : (σ.symm c).val ≠ k.val := fun hv => h (by
      have : σ.symm c = posn k := Fin.ext hv
      rw [← this, Equiv.apply_symm_apply])
    have e : Scalar.cmpi .eq (Dev.word (σ (posn k))) (Dev.word c) = 0#1 := by
      show BitVec.ofBool (Dev.word (σ (posn k)) == Dev.word c) = 0#1
      rw [beq_eq_false_iff_ne.mpr fun hv => h (word_inj hv)]; rfl
    rw [e]
    show found σ c k.val = _
    unfold found
    by_cases hl : (σ.symm c).val < k.val
    · rw [if_pos hl, if_pos (by omega)]
    · rw [if_neg hl, if_neg (by omega)]

/-! ## The bytes -/

theorem d_set : dM.view.set = Finset.univ := by
  rw [Memref.view_squeeze, View.set_reshape, Memref.view_slice, Memref.view_whole, View.set_slice_whole]
  exact Finset.eq_univ_of_forall fun y => View.mem_set_unit_zero zero3 _ y

omit [FloatOps F] in
/-- Two contents of the output block that read the same through the squeezed view are the same. -/
theorem d_ext {f g : (cc0_stg2_0 : Ref sig .tc).ty.Contents (Elt F)} (h : dM.view.read (Elt F) f = dM.view.read (Elt F) g) : f = g := by
  funext i
  have hi : i ∈ dM.view.set := by rw [d_set]; exact Finset.mem_univ i
  obtain ⟨y, -, rfl⟩ := Finset.mem_map.mp hi
  exact congrFun h y

omit [FloatOps F] in
/-- Read through the squeezed view, a block is what the kernel stored of it. -/
theorem d_read (x : (cc0_stg1_0 : Ref sig .tc).ty.Contents (Elt F)) (y : (cc0_stg2_0 : Ref sig .tc).ty.Contents (Elt F)) (h : y = x) :
    dM.view.read (Elt F) y = k0_pay1 (F := F) x := by
  subst h
  funext j
  show y _ = y _
  refine congrArg y ?_
  refine (Rect.emb_unit_full (s := S1x512x512) (off := ![0, 0, 0]) _ _).trans ?_
  exact congrArg _ (Shape.reshapeEquiv_self _ j).symm

omit [FloatOps F] in
/-- The transfer of what the kernel stored of `x` leaves `x` in the output block. -/
theorem d_write (fd : (cc0_stg2_0 : Ref sig .tc).ty.Contents (Elt F)) (x : (cc0_stg1_0 : Ref sig .tc).ty.Contents (Elt F)) :
    dM.view.write (Elt F) fd (sM.view.read (Elt F) (k0_pay1 (F := F) x)) Finset.univ = (x : (cc0_stg2_0 : Ref sig .tc).ty.Contents (Elt F)) :=
  d_ext (by
    rw [View.read_write_univ, d_read x x rfl]
    exact View.read_whole _ _)

omit [FloatOps F] in
theorem x_read (f : (cc0_stg1_0 : Ref sig .tc).ty.Contents (Elt F)) : xM.view.readAt (Elt F) box3.toLoadRect f = f :=
  Memref.readAt_unit_zero (Elt F) cc0_stg1_0 zero3 _ f
omit [FloatOps F] in
theorem s_write (f w : (cc0_scratch0 : Ref sig .tc).ty.Contents (Elt F)) :
    (sM.access box2 : View sig .tc _ _ _).write (Elt F) f w Finset.univ = w :=
  Memref.write_access_unit_zero_univ (Elt F) cc0_scratch0 zero2 _ f w

end Cert.PermProof

end
-- ==== Proof.Protocol.lean ====
/-
The protocol of the permuted exchange: which semaphore cell is paid by whom, and what each payment hands over.

Every device has three cells, each used for one round with one payment. Its barrier cell is paid one unit by the
device it will send to: the payment lends that device's output block, so the sender may write into it. Its send
cell is paid by its own transfer when the bytes have been read: the send buffer comes back. Its receive cell is paid
by the transfer of the device the table sends to it: its output block comes back, holding that device's `x`.
-/
module

public import proofs.«01_k».proof.Proof.Route

@[expose] public section

noncomputable section

namespace Cert.PermProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resources: the pipeline's copy of the rounds and the exchange's -/

abbrev UX : Type := URounds (GSem nD τ sig) Unit
abbrev UU : Type := UR sig nD τ × UX

local notation "𝕄" => MT nD τ sig Unit (Elt F) ℕ UU ℕ

abbrev EP : Emb (UR sig nD τ) (MT nD τ sig Unit (Elt F) ℕ UU ℕ) := embL
abbrev EX : Emb UX (MT nD τ sig Unit (Elt F) ℕ UU ℕ) := embR

variable (m : (ℓ : Loc nD τ sig) → Buf (Elt F) ℓ) (ρ : Dev nD → PrngReg) (σ : Equiv.Perm (Dev nD))

/-- The launch state: the memory given, every counter zero. -/
def s₀ : MemSt nD τ sig (Elt F) := ⟨m, fun _ => 0, ρ⟩

/-! ## The cells -/

abbrev barS : Sem sig := (SemArray.scalar (sig.barrier 0 rfl) : Sems sig S_).sem
abbrev sendS : DmaSems sig S_ := cc0_scratch1
abbrev recvS : DmaSems sig S_ := cc0_scratch2

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)

/-- The launch's own semaphores, and all three of a device's cells. -/
abbrev osem : Fin 2 → SemLoc sig := fun | 0 => .dma sendS.sem | 1 => .dma recvS.sem
abbrev csem : Fin 3 → SemLoc sig := fun | 0 => .reg barS | 1 => .dma sendS.sem | 2 => .dma recvS.sem
abbrev kcell (ck : Dev nD × Fin 3) : GSem nD τ sig := ((ck.1 : Thread nD τ), csem ck.2)

/-- One block's credit. -/
abbrev N : ℕ := dM.view.dmaCredit
theorem N_pos : 0 < N := View.dmaCredit_pos _ (by decide)

/-! ## Contents -/

/-- Device `c`'s table and its block of `x`, as staged. -/
def tstg (c : Dev nD) : (cc0_stg0_0 : Ref sig .tc).ty.Contents (Elt F) :=
  (win0_0.blk (0 : Fin 1)).view.read (Elt F) ((s₀ m ρ).mem ((c : Thread nD τ).loc main_arg1))
def xstg (c : Dev nD) : (cc0_stg1_0 : Ref sig .tc).ty.Contents (Elt F) :=
  (win0_1.blk (0 : Fin 1)).view.read (Elt F) ((s₀ m ρ).mem ((c : Thread nD τ).loc main_arg0))

/-- What ends on device `c`: the block of `x` of the device whose table word is `c`. -/
def outAt (c : Dev nD) : (cc0_stg2_0 : Ref sig .tc).ty.Contents (Elt F) := xstg m ρ (σ.symm c)

/-- Device `c`'s output block; and its send buffer. -/
def outPts (c : Dev nD) (f : Buf (Elt F) (dM.view.loc (c : Thread nD τ))) : sProp 𝕄 :=
  dM.view.loc (c : Thread nD τ) ↦[dM.view.set]{fullShare} f
def bufPts (c : Dev nD) (f : Buf (Elt F) (sM.view.loc (c : Thread nD τ))) : sProp 𝕄 :=
  sM.view.loc (c : Thread nD τ) ↦[sM.view.set]{fullShare} f

omit [FloatOps F] in
instance outPts_storable (c : Dev nD) (f) : BI.Storable (upEmb : UEmb _ 𝕄) (outPts (F := F) c f) := by unfold outPts; infer_instance
omit [FloatOps F] in
instance bufPts_storable (c : Dev nD) (f) : BI.Storable (upEmb : UEmb _ 𝕄) (bufPts (F := F) c f) := by unfold bufPts; infer_instance

omit [FloatOps F] in
theorem outPts_eq (c : Dev nD) (f : Buf (Elt F) ((c : Thread nD τ).loc cc0_stg2_0)) :
    outPts c f = (((c : Thread nD τ).loc cc0_stg2_0) ↦{fullShare} f : sProp 𝕄) := by unfold outPts; rw [d_set]
omit [FloatOps F] in
theorem bufPts_eq (c : Dev nD) (f : Buf (Elt F) ((c : Thread nD τ).loc cc0_scratch0)) :
    bufPts c f = (((c : Thread nD τ).loc cc0_scratch0) ↦{fullShare} f : sProp 𝕄) := by unfold bufPts; rw [View.set_whole]

/-! ## The schedule -/

/-- What the barrier payment hands the sender `c`; what its send cell gives back; what its receive cell does. -/
def barPay (c : Dev nD) : sProp 𝕄 := iprop(∃ f, outPts (F := F) (σ c) f)
def sendPay (c : Dev nD) : sProp 𝕄 := bufPts c (k0_pay1 (xstg m ρ c))
def recvPay (c : Dev nD) : sProp 𝕄 := outPts c (outAt m ρ σ c)

/-- The three cells a device has in the exchange. -/
abbrev IsCell (g : GSem nD τ sig) : Prop := g.1.2 = .tc ∧ (g.2 = .reg barS ∨ g.2 = .dma sendS.sem ∨ g.2 = .dma recvS.sem)

def sched : Rounds.Schedule (GSem nD τ sig) Unit 𝕄 where
  duties g r := if r = 0 ∧ IsCell g then {()} else ∅
  unitless _ := False
  amount g _ _ := if g.2 = .reg barS then 1 else N
  payload g _ _ :=
    if g.2 = .reg barS then barPay σ g.1.1
    else if g.2 = .dma recvS.sem then recvPay m ρ σ g.1.1
    else if g.2 = .dma sendS.sem then sendPay m ρ g.1.1
    else iprop(emp)
  amount_pos g _ _ _ := by
    split
    · exact Nat.one_pos
    · exact N_pos

instance sched_storable (g : GSem nD τ sig) (r : ℕ) (d : Unit) : BI.Storable (upEmb : UEmb _ 𝕄) ((sched (F := F) m ρ σ).payload g r d) := by
  dsimp only [sched]
  unfold barPay recvPay sendPay
  (repeat' split) <;> infer_instance

theorem send_ne_bar : (SemLoc.dma sendS.sem : SemLoc sig) ≠ .reg barS := fun h => by cases h
theorem recv_ne_bar : (SemLoc.dma recvS.sem : SemLoc sig) ≠ .reg barS := fun h => by cases h
theorem send_ne_recv : (SemLoc.dma sendS.sem : SemLoc sig) ≠ .dma recvS.sem := by decide

section At
variable (c : Dev nD)

omit [FloatOps F] in
theorem duties_at (k : Fin 3) : (sched (F := F) m ρ σ).duties (kcell (c, k)) 0 = {()} := by
  dsimp only [sched]
  exact if_pos ⟨rfl, rfl, by fin_cases k; exacts [.inl rfl, .inr (.inl rfl), .inr (.inr rfl)]⟩
omit [FloatOps F] in
theorem duty_mem (k : Fin 3) : () ∈ (sched (F := F) m ρ σ).duties (kcell (c, k)) 0 := by rw [duties_at]; exact Finset.mem_singleton_self _
omit [FloatOps F] in
theorem duties_later (g : GSem nD τ sig) : ∀ r, 1 ≤ r → (sched (F := F) m ρ σ).duties g r = ∅ :=
  fun r hr => by dsimp only [sched]; exact if_neg fun h => by omega

omit [FloatOps F] in
theorem amount_bar : (sched (F := F) m ρ σ).amount (barCell c) 0 () = 1 := by dsimp only [sched]; exact if_pos rfl
omit [FloatOps F] in
theorem amount_send : (sched (F := F) m ρ σ).amount (sendCell c) 0 () = N := by dsimp only [sched]; exact if_neg send_ne_bar
omit [FloatOps F] in
theorem amount_recv : (sched (F := F) m ρ σ).amount (recvCell c) 0 () = N := by dsimp only [sched]; exact if_neg recv_ne_bar

omit [FloatOps F] in
theorem expect_at (k : Fin 3) : (sched (F := F) m ρ σ).expect (kcell (c, k)) 0 = (sched (F := F) m ρ σ).amount (kcell (c, k)) 0 () := by
  unfold Schedule.expect Schedule.amountOf; rw [duties_at, Finset.sum_singleton]
omit [FloatOps F] in
theorem expect_bar : (sched (F := F) m ρ σ).expect (barCell c) 0 = 1 := (expect_at m ρ σ c 0).trans (amount_bar m ρ σ c)
omit [FloatOps F] in
theorem expect_send : (sched (F := F) m ρ σ).expect (sendCell c) 0 = N := (expect_at m ρ σ c 1).trans (amount_send m ρ σ c)
omit [FloatOps F] in
theorem expect_recv : (sched (F := F) m ρ σ).expect (recvCell c) 0 = N := (expect_at m ρ σ c 2).trans (amount_recv m ρ σ c)

theorem payload_bar : (sched (F := F) m ρ σ).payload (barCell c) 0 () = barPay σ c := by dsimp only [sched]; exact if_pos rfl
theorem payload_send : (sched (F := F) m ρ σ).payload (sendCell c) 0 () = sendPay m ρ c := by
  dsimp only [sched]; rw [if_neg send_ne_bar, if_neg send_ne_recv, if_pos rfl]
theorem payload_recv : (sched (F := F) m ρ σ).payload (recvCell c) 0 () = recvPay m ρ σ c := by
  dsimp only [sched]; rw [if_neg recv_ne_bar, if_pos rfl]

/-- A cell's whole round is its one payment. -/
theorem rest_at (k : Fin 3) : bigSep ((sched (F := F) m ρ σ).duties (kcell (c, k)) 0 \ ∅) (fun d => (sched (F := F) m ρ σ).payload (kcell (c, k)) 0 d)
    = (sched (F := F) m ρ σ).payload (kcell (c, k)) 0 () := by
  rw [Finset.sdiff_empty, duties_at, bigSep_singleton]
theorem rest_bar : bigSep ((sched (F := F) m ρ σ).duties (barCell c) 0 \ ∅) (fun d => (sched (F := F) m ρ σ).payload (barCell c) 0 d) = barPay σ c :=
  (rest_at m ρ σ c 0).trans (payload_bar m ρ σ c)
theorem rest_send : bigSep ((sched (F := F) m ρ σ).duties (sendCell c) 0 \ ∅) (fun d => (sched (F := F) m ρ σ).payload (sendCell c) 0 d) = sendPay m ρ c :=
  (rest_at m ρ σ c 1).trans (payload_send m ρ σ c)
theorem rest_recv : bigSep ((sched (F := F) m ρ σ).duties (recvCell c) 0 \ ∅) (fun d => (sched (F := F) m ρ σ).payload (recvCell c) 0 d) = recvPay m ρ σ c :=
  (rest_at m ρ σ c 2).trans (payload_recv m ρ σ c)

end At

/-! ## Debts and levels -/

/-- Device `c` owes the barrier cell of the device that sends to it one unit, and the receive cell of the device it
    sends to one block. The signal comes first: it peels the last summand. -/
def O₁ (c : Dev nD) : CellTallies nD τ sig Unit := tallyAt (recvCell (σ c)) () N
def O₀ (c : Dev nD) : CellTallies nD τ sig Unit := O₁ σ c + tallyAt (barCell (σ.symm c)) () 1

def L (g : GSem nD τ sig) : Finset Unit := if g.1.2 = .tc then {()} else ∅
/-- Barrier cells below receive cells; the staging and send cells below both. -/
def lv (g : GSem nD τ sig) (_ : Unit) : ℕ := if g.2 = .reg barS then 1 else if g.2 = .dma recvS.sem then 2 else 0

theorem L_of_ne (g : GSem nD τ sig) (h : g.1.2 ≠ .tc) : L g = ∅ := if_neg h
theorem L_tc (c : Dev nD) (sm : SemLoc sig) : () ∈ L ((c : Thread nD τ), sm) := by unfold L; rw [if_pos rfl]; exact Finset.mem_singleton_self _
theorem lv_bar (c : Dev nD) : lv (barCell c) () = 1 := if_pos rfl
theorem lv_recv (c : Dev nD) : lv (recvCell c) () = 2 := by unfold lv; rw [if_neg recv_ne_bar, if_pos rfl]

theorem O₁_pos {c : Dev nD} {g : GSem nD τ sig} {u : Unit} (h : 0 < O₁ σ c g u) : g = recvCell (σ c) := by
  unfold O₁ at h; rw [tallyAt_apply] at h
  by_contra hn; rw [if_neg fun h' => hn h'.1] at h; exact Nat.lt_irrefl 0 h
theorem O₀_pos {c : Dev nD} {g : GSem nD τ sig} {u : Unit} (h : 0 < O₀ σ c g u) : g = recvCell (σ c) ∨ g = barCell (σ.symm c) := by
  by_cases h1 : 0 < O₁ σ c g u
  · exact .inl (O₁_pos σ h1)
  · refine .inr ?_
    unfold O₀ at h
    rw [Pi.add_apply, Finsupp.add_apply, Nat.eq_zero_of_not_pos h1, Nat.zero_add, tallyAt_apply] at h
    by_contra hn; rw [if_neg fun h' => hn h'.1] at h; exact Nat.lt_irrefl 0 h

omit [FloatOps F] in
theorem mayWait_stage (c : Dev nD) (q : DmaSem sig) (hq : SemLoc.dma q ≠ .dma recvS.sem) (O : CellTallies nD τ sig Unit) (hO : O = O₀ σ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp]; exact L_tc _ _)
      (fun g u hg => by rcases O₀_pos σ hg with rfl | rfl <;> exact L_tc _ _)
      (fun p hp => by rw [Finset.mem_singleton.mp hp]; dsimp only [lv]; rw [if_neg (fun h => by cases h), if_neg hq])
      (fun g u hg => by
        rcases O₀_pos σ hg with rfl | rfl
        · rw [lv_recv]; decide
        · rw [lv_bar]; decide)
  · rw [MayWait_zero]; iintro -; iempintro

omit [FloatOps F] in
/-- At its barrier wait a device owes a receive cell only, which lies above. -/
theorem mayWait_bar (c : Dev nD) : (levAts L lv : sProp 𝕄) ⊢ MayWait (c : Thread nD τ) (.reg barS) () (O₁ σ c) :=
  MayOwe.of_cut (L := L) (lev := lv) 1 (fun p hp => by rw [Finset.mem_singleton.mp hp]; exact L_tc _ _)
    (fun g u hg => by rw [O₁_pos σ hg]; exact L_tc _ _)
    (fun p hp => by rw [Finset.mem_singleton.mp hp]; exact le_of_eq (lv_bar c))
    (fun g u hg => by rw [O₁_pos σ hg, lv_recv]; decide)

/-! ## The pipeline's data -/

/-- The cells device `c` opens: its three, its sender's barrier cell, its receiver's receive cell. -/
def invs (K : Dev nD × Fin 3 → ℕ) (c : Dev nD) : sProp 𝕄 :=
  iprop(cellInv EX (sched m ρ σ) (K (c, 0)) (barCell c) ∗ cellInv EX (sched m ρ σ) (K (c, 1)) (sendCell c) ∗ cellInv EX (sched m ρ σ) (K (c, 2)) (recvCell c)
    ∗ cellInv EX (sched m ρ σ) (K (σ.symm c, 0)) (barCell (σ.symm c)) ∗ cellInv EX (sched m ρ σ) (K (σ c, 2)) (recvCell (σ c)))

instance invs_persistent (K : Dev nD × Fin 3 → ℕ) (c : Dev nD) : BI.Persistent (invs m ρ σ K c) := by unfold invs; infer_instance

/-- Its positions, the marks of the cells it pays, and the tokens it pays with. -/
def ghost (K : Dev nD × Fin 3 → ℕ) (c : Dev nD) : sProp 𝕄 :=
  iprop(invs m ρ σ K c
    ∗ atPos EX (barCell c) 0 ∅ 0 ∗ atPos EX (sendCell c) 0 ∅ 0 ∗ atPos EX (recvCell c) 0 ∅ 0
    ∗ reached EX (barCell (σ.symm c)) 0 ∗ reached EX (recvCell (σ c)) 0 ∗ reached EX (sendCell c) 0
    ∗ dutyTok EX (barCell (σ.symm c)) 0 () ∗ dutyTok EX (recvCell (σ c)) 0 () ∗ dutyTok EX (sendCell c) 0 ())

def start (c : Dev nD) : sProp 𝕄 :=
  iprop((∃ K, ghost m ρ σ K c) ∗ cred (tallyAt (barCell c) () 1) ∗ cred (tallyAt (recvCell c) () N) ∗ levAts L lv)

def Φ₀ (c : Dev nD) : sProp 𝕄 := iprop(start m ρ σ c ∗ ∃ f, bufPts c f)
/-- After the body: the send buffer, and the three cells closed with their counters at zero. -/
def Φ₁ (c : Dev nD) : sProp 𝕄 := iprop(bufPts c (k0_pay1 (xstg m ρ c)) ∗ semVal (sendCell c) 0 ∗ semVal (recvCell c) 0 ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => tstg m ρ c
    | ⟨1, _⟩ => xstg m ρ c
    | ⟨2, _⟩ => outAt m ρ σ c
  Φ t := match t with
    | ⟨0, _⟩ => Φ₀ m ρ σ c
    | ⟨_ + 1, _⟩ => Φ₁ m ρ c
  q _ := fullShare
  owed t := match t with
    | ⟨0, _⟩ => O₀ σ c
    | ⟨_ + 1, _⟩ => 0

abbrev 𝒱₀ : Variants := Variants.none

end Cert.PermProof

end
-- ==== Proof.Body.lean ====
/-
The kernel's body under the protocol: from what a device starts with, one rule per operation in program order, to
its output block holding the block of `x` the table sends to it.
-/
module

public import proofs.«01_k».proof.Proof.Protocol

@[expose] public section

noncomputable section

namespace Cert.PermProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (σ : Equiv.Perm (Dev nD))

omit [FloatOps F] in
/-- The table as staged spells what the array does. -/
theorem tstg_spells (hT : Tables σ m) (c : Dev nD) : Spells σ (show IVec S16 32 from tstg m ρ c) := fun j => by
  refine Eq.trans ?_ (hT c j)
  show m ((c : Thread nD τ).loc main_arg1) _ = m ((c : Thread nD τ).loc main_arg1) _
  refine congrArg _ (funext fun a => Fin.ext ?_)
  fin_cases a; fin_cases j <;> rfl

omit [FloatOps F] in
/-- The word the kernel reads at its own number, and the word it reads at the scan's position `k`. -/
theorem word_own (hT : Tables σ m) (c : Dev nD) : wordAt (k0_off1 c) (k0_off1_inb c) (tstg m ρ c) = Dev.word (σ c) :=
  (wordAt_eq _ _ _ c (k0_off1_eq c)).trans (tstg_spells m ρ σ hT c c)
omit [FloatOps F] in
theorem word_scan (hT : Tables σ m) (c : Dev nD) (k : Fin k0_t1_loop.trips) :
    wordAt (k0_off2 k) (k0_off2_inb k) (tstg m ρ c) = Dev.word (σ (posn k)) :=
  (wordAt_eq _ _ _ (posn k) (k0_off2_eq k)).trans (tstg_spells m ρ σ hT c (posn k))

section Rules
variable (K : Dev nD × Fin 3 → ℕ)

/-- The signal, to a device that equals this one's sender: it lends this device's output block. -/
theorem wp_lend (c n : Dev nD) (hn : n = σ.symm c) (f : Buf (Elt F) ((c : Thread nD τ).loc cc0_stg2_0)) (W : Waits sig Unit)
    {α : Type} {Q : α → sProp 𝕄} {k : PUnit → Prog (TpuEff nD τ sig (Elt F) Λ₀ .tc) α} :
    iprop(cellInv EX (sched m ρ σ) (K (σ.symm c, 0)) (barCell (σ.symm c)) ∗ owes (c : Thread nD τ) (O₀ σ c) W
        ∗ dutyTok EX (barCell (σ.symm c)) 0 () ∗ (((c : Thread nD τ).loc cc0_stg2_0) ↦{fullShare} f) ∗ reached EX (barCell (σ.symm c)) 0)
      ⊢ iprop((owes (c : Thread nD τ) (O₁ σ c) W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n) barS (1#32 : BitVec 32).toInt) k) Q) := by
  subst hn
  rw [show (1#32 : BitVec 32).toInt = ((1#32 : BitVec 32).toNat : Int) from rfl, ← outPts_eq]
  iintro ⟨HI, HO, Ht, Hf, Hr⟩ Hk
  iapply (Rounds.wp_signal 𝒱₀ EX (sched m ρ σ) (c : Thread nD τ) none (dst := (σ.symm c : Thread nD τ)) (κ := K (σ.symm c, 0))
      (d := ()) (duty_mem m ρ σ (σ.symm c) 0) ((amount_bar m ρ σ (σ.symm c)).trans (by decide)) () (O₁ σ c) rfl) $$ [HI HO Ht Hf Hr]
  · isplitl [HI]; · iexact HI
    isplitl [HO]; · iexact HO
    isplitl [Ht]; · iexact Ht
    isplitl [Hf]
    · rw [payload_bar]; unfold barPay; rw [Equiv.apply_symm_apply]
      iexists f; iexact Hf
    iexact Hr
  iexact Hk

/-- The transfer, to a device that equals this one's receiver. -/
theorem wp_transfer (c n : Dev nD) (hn : n = σ c) {hsc : (dM : Memref sig (Dev.tc n : Thread nD τ).2.kind .vmem S512x512 .bf16).view.ref.isScScratch = false}
    {hsrc : sM.view.WordExact} {hdst : dM.view.WordExact}
    {hsem : DmaTarget.Typed .vmem (.dma recvS.sem) (.remote (Dev.tc n : Thread nD τ) dM (.dma sendS.sem) hsc)}
    {α : Type} {Q : α → sProp 𝕄} {k : PUnit → Prog (TpuEff nD τ sig (Elt F) Λ₀ .tc) α}
    (fn : Buf (Elt F) (dM.view.loc (σ c : Thread nD τ))) (W : Waits sig Unit) :
    iprop(cellInv EX (sched m ρ σ) (K (c, 1)) (sendCell c) ∗ cellInv EX (sched m ρ σ) (K (σ c, 2)) (recvCell (σ c))
        ∗ bufPts c (k0_pay1 (xstg m ρ c)) ∗ outPts (σ c) fn
        ∗ owes (c : Thread nD τ) (O₁ σ c) W
        ∗ dutyTok EX (sendCell c) 0 () ∗ reached EX (sendCell c) 0
        ∗ dutyTok EX (recvCell (σ c)) 0 () ∗ reached EX (recvCell (σ c)) 0)
      ⊢ iprop(((cred (tallyAt (sendCell c) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma sM (.remote (Dev.tc n : Thread nD τ) dM (.dma sendS.sem) hsc) (.dma recvS.sem) hsrc hdst hsem) k) Q) := by
  subst hn
  unfold bufPts outPts
  exact Rounds.wp_send_pointsTo 𝒱₀ EX (sched m ρ σ) (c : Thread nD τ) none (κ₁ := K (c, 1)) (κ₂ := K (σ c, 2))
    (r₁ := 0) (r₂ := 0) (d₁ := ()) (d₂ := ()) (fd := fn)
    (duty_mem m ρ σ c 1) (duty_mem m ρ σ (σ c) 2)
    () () N rfl (amount_send m ρ σ c) (amount_recv m ρ σ (σ c)) 0 (by rw [zero_add]; rfl) (W := W)
    (by rw [payload_send]; exact BI.Entails.refl _)
    (by rw [payload_recv, d_write]; unfold recvPay outPts outAt; rw [Equiv.symm_apply_apply])

end Rules

/-! ## The scan -/

/-- Before trip `k`: the table held, and the position found so far carried. -/
def scanInv (c : Dev nD) (k : ℕ) (acc : BitVec 32) : sProp 𝕄 :=
  iprop((((c : Thread nD τ).loc cc0_stg0_0) ↦{fullShare} tstg m ρ c) ∗ ⌜acc = found σ c k⌝)

theorem scan_step (hT : Tables σ m) (c : Dev nD) (k : Fin k0_t1_loop.trips) (acc : BitVec 32)
    {arg0' : Memref sig .tc .smem S16 .i32} (h0 : arg0' = tM) (h0' : arg0'.IsWhole) (w2 : BitVec 32) (hw2 : w2 = Scalar.remsi (Scalar.divsi (Dev.word c) 1#32) 16#32) :
    scanInv m ρ σ c k.val acc ⊢ wp frame (wpE (defs₀ (F := F)) 𝒱₀ (c : Thread nD τ) none) Set.univ
      (k0_t1_body (F := F) arg0' h0' xM (Memref.isWhole_whole _) oM (Memref.isWhole_whole _) sM (Memref.isWhole_whole _) cc0_scratch1 cc0_scratch2 w2 k acc)
      (scanInv m ρ σ c (k.val + 1)) := by
  subst h0 hw2
  unfold k0_t1_body scanInv
  simp only [smemLoad, smemLoadElt, Prog.lift, Prog.bind_op, Prog.bind_ret, Prog.pure_eq_ret, Prog.bind_assoc]
  iintro ⟨Ht, %ha⟩
  iapply (wp_load_rect 𝒱₀ (c : Thread nD τ) none Set.univ (m := tM)
    (r := Rect.unit (s := S16) (k0_off2 k) S1.size (k0_off2_inb k)) (Finset.subset_univ _)) $$ Ht; iintro Ht
  rw [wp_ret]; imodintro
  isplitl [Ht]; · iexact Ht
  ipureintro
  rw [ha]
  exact found_succ σ c k _ (word_scan m ρ σ hT c k)

/-! ## The body -/

omit [FloatOps F] in
theorem bigSep_W (Φ : Fin cfg0.W → sProp 𝕄) : bigSep Finset.univ Φ = iprop(Φ (0 : Fin 3) ∗ Φ (1 : Fin 3) ∗ Φ (2 : Fin 3)) := bigSep_W0 Φ

/-- A staging buffer, whole, at the contents named. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

def bodyPre (K : Dev nD × Fin 3 → ℕ) (c : Dev nD) : sProp 𝕄 :=
  iprop((ghost m ρ σ K c ∗ cred (tallyAt (barCell c) () 1) ∗ cred (tallyAt (recvCell c) () N) ∗ levAts L lv ∗ ∃ f, bufPts c f)
    ∗ (dats m ρ σ 0 c).owesAt () t0_0.castSucc
    ∗ (∃ d, stg c cc0_stg0_0 ((dats m ρ σ 0 c).before (0 : Fin 3) t0_0 d))
    ∗ (∃ d, stg c cc0_stg1_0 ((dats m ρ σ 0 c).before (1 : Fin 3) t0_0 d))
    ∗ (∃ d, stg c cc0_stg2_0 ((dats m ρ σ 0 c).before (2 : Fin 3) t0_0 d)))

def bodyPost (c : Dev nD) : sProp 𝕄 :=
  iprop(Φ₁ m ρ c ∗ (dats m ρ σ 0 c).owesAt () t0_0.succ
    ∗ stg c cc0_stg0_0 (tstg m ρ c) ∗ stg c cc0_stg1_0 (xstg m ρ c) ∗ stg c cc0_stg2_0 (outAt m ρ σ c))

set_option maxHeartbeats 4000000 in
theorem sound_body (hT : Tables σ m) (K : Dev nD × Fin 3 → ℕ) (c : Dev nD) (Kt : PUnit → sProp 𝕄) :
    iprop(bodyPre m ρ σ K c ∗ (bodyPost m ρ σ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _) cc0_scratch1 cc0_scratch2) Kt := by
  simp only [cc0_body_eq_skeleton]; unfold cc0_body_skel
  simp only [k0_part1_eq_skeleton]; unfold k0_part1_skel
  simp only [semSignalWord, semWaitWord, smemLoad, smemLoadElt, Prog.lift, Prog.bind_op, Prog.bind_ret, Prog.pure_eq_ret, Prog.bind_assoc, wp_deviceId]
  unfold bodyPre ghost invs
  iintro ⟨⟨⟨⟨⟨#HIbar, #HIsnd, #HIrcv, #HIbarP, #HIrcvN⟩, HatB, HatS, HatV, #HrBP, #HrVN, #HrS, HtBP, HtVN, HtS⟩, HcB, HcV, #Hlev, ⟨%f0, Hbuf⟩⟩,
    Ho, ⟨%d0, %g0, %hg0, Ht⟩, ⟨%d1, %g1, %hg1, Hx⟩, ⟨%d2, %g2, %hg2, Hout⟩⟩, Hk⟩
  have ht : g0 = tstg m ρ c := by rw [hg0]; unfold Dat.before; rw [if_pos (fetch0_0 t0_0)]; rfl
  subst ht
  have hx : g1 = xstg m ρ c := by rw [hg1]; unfold Dat.before; rw [if_pos (fetch0_1 t0_0)]; rfl
  subst hx
  unfold Dat.owesAt Pipeline.owesWithin
  icases Ho with ⟨%W, %hW, HO⟩
  rw [show (dats m ρ σ 0 c).owed t0_0.castSucc = O₀ σ c from rfl]
  -- the receiver: the table's word at this device's number
  iapply (wp_load_rect 𝒱₀ (c : Thread nD τ) none Set.univ (m := tM)
    (r := Rect.unit (s := S16) (k0_off1 c) S1.size (k0_off1_inb c)) (Finset.subset_univ _)) $$ Ht; iintro Ht
  generalize hw : (tM.access (Rect.unit (s := S16) (k0_off1 c) S1.size (k0_off1_inb c)) : View sig .tc _ _ _).read (Elt F) (tstg m ρ c)
    (Shape.Idx.first (s := S1) (numel1_S1.symm ▸ Nat.one_pos)) = w4
  have hw4 : w4 = Dev.word (σ c) := hw.symm.trans (word_own m ρ σ hT c)
  clear hw; subst hw4
  simp only [wp_assume_of _ _ _ _ (d := k0_chk2.dec _) (chk2_word (σ c))]
  -- the announcer's target: the scan of the table
  iapply (Scf.wp_for_bind Idealize.ShloMosaic.frame (wpE (defs₀ (F := F)) 𝒱₀ (c : Thread nD τ) none) Set.univ
    k0_t1_loop.lb k0_t1_loop.ub k0_t1_loop.st k0_t1_ok 0#32
    (k0_t1_body (F := F) tM (Memref.isWhole_whole _) xM (Memref.isWhole_whole _) oM (Memref.isWhole_whole _) sM (Memref.isWhole_whole _) cc0_scratch1 cc0_scratch2
      (Scalar.remsi (Scalar.divsi (Dev.word c) 1#32) 16#32))
    (scanInv m ρ σ c) (fun k acc => scan_step m ρ σ hT c k acc rfl (Memref.isWhole_whole _) _ rfl)) $$ [Ht]
  · unfold scanInv
    isplitl [Ht]; · iexact Ht
    ipureintro; exact (found_zero σ c).symm
  iintro %acc HI
  unfold scanInv
  icases HI with ⟨Ht, %hacc⟩
  have hw6 : acc = Dev.word (σ.symm c) := hacc.trans (found_all σ c)
  clear hacc; subst hw6
  simp only [wp_assume_of _ _ _ _ (d := k0_chk1.dec _) (chk1_word (σ.symm c))]
  -- the signal to this device's sender lends it the output block
  iapply (wp_lend m ρ σ K c _ (Fin.ext (dev1_word (σ.symm c))) g2 W) $$ [HO HtBP Hout]
  · isplitr; · iexact HIbarP
    isplitl [HO]; · iexact HO
    isplitl [HtBP]; · iexact HtBP
    isplitl [Hout]; · iexact Hout
    iexact HrBP
  iintro HO
  -- the block of `x` into the send buffer
  iapply (wp_load 𝒱₀ (c : Thread nD τ) none Set.univ (m := xM) (Finset.subset_univ _)) $$ Hx; iintro Hx
  rw [x_read]
  ihave Hbuf := (Entails.of_eq (bufPts_eq c f0)) $$ Hbuf
  iapply (wp_load 𝒱₀ (c : Thread nD τ) none Set.univ (m := sM) (Finset.subset_univ _)) $$ Hbuf; iintro Hbuf
  iapply (wp_store 𝒱₀ (c : Thread nD τ) none Set.univ (m := sM) (r := box2) (Mk := Finset.univ) (Finset.subset_univ _)) $$ Hbuf; iintro Hbuf
  rw [s_write]
  -- the wait for the receiver's announcement: its output block comes with it
  iapply (Rounds.wp_wait_rest_token 𝒱₀ EX (sched m ρ σ) (c : Thread nD τ) none (κ := K (c, 0))
      (wpE_semWait_eq 𝒱₀ (c : Thread nD τ) none Set.univ) (Set.mem_univ _) () (O := O₁ σ c) (W := W) (R := 0) (m := 0) (T := ∅)
      (by rw [expect_bar]; decide)) $$ [HcB HO HatB]
  · isplitr; · iexact HIbar
    isplitl [HcB]; · iexact HcB
    isplitl [HO]; · iexact HO
    isplitr; · iapply (mayWait_bar σ c); iexact Hlev
    iexact HatB
  iintro ⟨HO, HatB, -, Hpay⟩
  ihave Hp := (Entails.of_eq (rest_bar m ρ σ c)) $$ Hpay
  unfold barPay
  icases Hp with ⟨%fn, HoutN⟩
  -- the transfer
  ihave Hbuf := (Entails.of_eq (bufPts_eq c (k0_pay1 (xstg m ρ c))).symm) $$ Hbuf
  iapply (wp_transfer m ρ σ K c _ (Fin.ext (dev2_word (σ c))) fn (insert (SemLoc.reg barS, ()) W)) $$ [Hbuf HoutN HO HtS HtVN]
  · isplitr; · iexact HIsnd
    isplitr; · iexact HIrcvN
    isplitl [Hbuf]; · iexact Hbuf
    isplitl [HoutN]; · iexact HoutN
    isplitl [HO]; · iexact HO
    isplitl [HtS]; · iexact HtS
    isplitr; · iexact HrS
    isplitl [HtVN]; · iexact HtVN
    iexact HrVN
  iintro ⟨HcS, HO⟩
  -- the send buffer back
  iapply (Rounds.wp_wait_rest_token 𝒱₀ EX (sched m ρ σ) (c : Thread nD τ) none (κ := K (c, 1))
      (wpE_waitDma2_eq 𝒱₀ (c : Thread nD τ) none Set.univ) (Set.mem_univ _) () (O := 0) (W := insert (SemLoc.reg barS, ()) W) (R := 0) (m := 0) (T := ∅)
      (by rw [Nat.zero_add, expect_send])) $$ [HcS HO HatS]
  · isplitr; · iexact HIsnd
    isplitl [HcS]; · iexact HcS
    isplitl [HO]; · iexact HO
    isplitr; · rw [MayWait_zero]; iempintro
    iexact HatS
  iintro ⟨HO, HatS, -, Hpay⟩
  ihave Hbuf := (Entails.of_eq (rest_send m ρ σ c)) $$ Hpay
  -- the output block back, holding what was sent here
  iapply (Rounds.wp_wait_rest_token 𝒱₀ EX (sched m ρ σ) (c : Thread nD τ) none (κ := K (c, 2))
      (wpE_waitDma2_eq 𝒱₀ (c : Thread nD τ) none Set.univ) (Set.mem_univ _) () (O := 0)
      (W := insert (SemLoc.dma sendS.sem, ()) (insert (SemLoc.reg barS, ()) W)) (R := 0) (m := 0) (T := ∅)
      (by rw [Nat.zero_add, expect_recv])) $$ [HcV HO HatV]
  · isplitr; · iexact HIrcv
    isplitl [HcV]; · iexact HcV
    isplitl [HO]; · iexact HO
    isplitr; · rw [MayWait_zero]; iempintro
    iexact HatV
  iintro ⟨HO, HatV, -, Hpay⟩
  ihave Hout := (Entails.of_eq ((rest_recv m ρ σ c).trans (by unfold recvPay; exact outPts_eq c _))) $$ Hpay
  -- the three cells close at zero
  imod (Rounds.cell_close EX (sched m ρ σ) (Set.mem_univ (K (c, 1))) (fun h => h) (R := 0 + 1) (duties_later m ρ σ (sendCell c))) $$ [HatS] with HzS
  · isplitr; · iexact HIsnd
    iexact HatS
  imod (Rounds.cell_close EX (sched m ρ σ) (Set.mem_univ (K (c, 2))) (fun h => h) (R := 0 + 1) (duties_later m ρ σ (recvCell c))) $$ [HatV] with HzV
  · isplitr; · iexact HIrcv
    iexact HatV
  imod (Rounds.cell_close EX (sched m ρ σ) (Set.mem_univ (K (c, 0))) (fun h => h) (R := 0 + 1) (duties_later m ρ σ (barCell c))) $$ [HatB] with HzB
  · isplitr; · iexact HIbar
    iexact HatB
  rw [wp_ret]; imodintro
  iapply Hk
  unfold bodyPost Φ₁ Dat.owesAt Pipeline.owesWithin
  rw [show (dats m ρ σ 0 c).owed t0_0.succ = 0 from rfl]
  isplitl [Hbuf HzS HzV HzB]
  · isplitl [Hbuf]; · unfold sendPay; iexact Hbuf
    isplitl [HzS]; · iexact HzS
    isplitl [HzV] <;> iassumption
  isplitl [HO]
  · iexists (insert (SemLoc.dma recvS.sem, ()) (insert (SemLoc.dma sendS.sem, ()) (insert (SemLoc.reg barS, ()) W)))
    isplitr; · ipureintro; exact fun _ _ => Or.inl trivial
    iexact HO
  isplitl [Ht]
  · iexists _; isplitr; · (ipureintro; rfl)
    iexact Ht
  isplitl [Hx]
  · iexists _; isplitr; · (ipureintro; rfl)
    iexact Hx
  iexists _; isplitr; · (ipureintro; rfl)
  iexact Hout

/-- The library's obligation on the body, at every point (there is one). -/
theorem body_obligation (hT : Tables σ m) (c : Dev nD) : BodyObligation (dats (F := F) m ρ σ 0 c) (defs₀ (F := F)) 𝒱₀ () Set.univ := fun t => by
  rw [fin_N0 t, bigSep_W, bigSep_W]
  simp only [owns_whole_eq]
  show iprop(Φ₀ m ρ σ c ∗ (dats m ρ σ 0 c).owesAt () t0_0.castSucc
      ∗ (∃ d, stg c cc0_stg0_0 ((dats m ρ σ 0 c).before (0 : Fin 3) t0_0 d))
      ∗ (∃ d, stg c cc0_stg1_0 ((dats m ρ σ 0 c).before (1 : Fin 3) t0_0 d))
      ∗ (∃ d, stg c cc0_stg2_0 ((dats m ρ σ 0 c).before (2 : Fin 3) t0_0 d)))
    ⊢ wp frame (wpE (defs₀ (F := F)) 𝒱₀ c none) Set.univ
      (cc0_body (Memref.whole cc0_stg0_0) (Memref.isWhole_whole _) (Memref.whole cc0_stg1_0) (Memref.isWhole_whole _)
        (Memref.whole cc0_stg2_0) (Memref.isWhole_whole _) (Memref.whole cc0_scratch0) (Memref.isWhole_whole _) cc0_scratch1 cc0_scratch2)
      (fun _ => bodyPost m ρ σ c)
  unfold Φ₀ start
  iintro ⟨⟨⟨⟨%K, Hg⟩, HcB, HcV, Hlev⟩, Hbuf⟩, Ho, Hrest⟩
  iapply (sound_body m ρ σ hT K c fun _ => bodyPost m ρ σ c)
  unfold bodyPre
  isplitr []
  · isplitl [Hg HcB HcV Hlev Hbuf]
    · isplitl [Hg]; · iexact Hg
      isplitl [HcB]; · iexact HcB
      isplitl [HcV]; · iexact HcV
      isplitl [Hlev] <;> iassumption
    isplitl [Ho] <;> iassumption
  · iintro H; iexact H

end Cert.PermProof

end
-- ==== Proof.Run.lean ====
/-
The launch: the cells allocated for all devices at once, the payment tokens dealt along the permutation, and the run
of `@main` at the mesh of sixteen from any memory whose tables spell `σ`.
-/
module

public import proofs.«01_k».proof.Proof.Body
public import Idealize.ShloMosaic.Lib.Pipeline.CollectiveSegs

@[expose] public section

noncomputable section

namespace Cert.PermProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (σ : Equiv.Perm (Dev nD))

theorem ownSemFacts : Pipeline.OwnSemFacts cfg0.spec osem := by decide

theorem share_eq (c : Dev nD) (w : Fin cfg0.W) : (dats m ρ σ 0 c).share w = fullShare := by unfold Dat.share; split <;> rfl

/-! ## What is minted, and for whom -/

theorem csem_injective : Function.Injective csem := fun a b h => by
  fin_cases a <;> fin_cases b <;> first | rfl | exact absurd h (by decide)
theorem kcell_injective : Function.Injective (kcell : Dev nD × Fin 3 → GSem nD τ sig) := fun a b h =>
  Prod.ext (congrArg (fun g : GSem nD τ sig => g.1.1) h) (csem_injective (congrArg Prod.snd h))
def allCells : Finset (GSem nD τ sig) := Finset.univ.map ⟨kcell, kcell_injective⟩

/-- One token per cell: its one payment. -/
abbrev tokOf (ck : Dev nD × Fin 3) : GSem nD τ sig × ℕ × Unit := (kcell ck, 0, ())
theorem tokOf_injective : Function.Injective tokOf := fun a b h => kcell_injective (congrArg Prod.fst h)
def allToks : Finset (GSem nD τ sig × ℕ × Unit) := Finset.univ.map ⟨tokOf, tokOf_injective⟩

def u₀ : UU :=
  (initOf (Pipeline.cells cfgs cellOf_inj) (Pipeline.launchToks cfgs cellOf_inj), initOf allCells allToks)

/-- What the launch deals device `c`: per cell of its own, the round state, the position and mark, the token. -/
def G (c : Dev nD) : sProp 𝕄 :=
  iprop((bigSep Finset.univ fun k : Fin 3 => roundState EX (sched m ρ σ) (kcell (c, k)) 0)
    ∗ (bigSep Finset.univ fun k : Fin 3 => iprop(atPos EX (kcell (c, k)) 0 ∅ 0 ∗ reached EX (kcell (c, k)) 0))
    ∗ (bigSep Finset.univ fun k : Fin 3 => dutyTok EX (kcell (c, k)) 0 ()))
def G' (c : Dev nD) : sProp 𝕄 := iprop(∃ K, ghost m ρ σ K c)

omit [FloatOps F] in
theorem three (Φ : Fin 3 → sProp 𝕄) : bigSep Finset.univ Φ = iprop(Φ 0 ∗ Φ 1 ∗ Φ 2) := bigSep_univ_eq_bigSepL [0, 1, 2] (by decide) (by decide) Φ

theorem fund_cells : BI.own (EX (initOf allCells allToks)) ⊢ (|==> bigSep Finset.univ (G m ρ σ) : sProp 𝕄) := by
  have hX (Φ : GSem nD τ sig → sProp 𝕄) : bigSep allCells Φ = bigSep Finset.univ fun c : Dev nD => bigSep Finset.univ fun k : Fin 3 => Φ (kcell (c, k)) := by
    unfold allCells; rw [bigSep_map, bigSep_univ_prod]; rfl
  have hT : bigSep allToks (fun x => (dutyTok EX x.1 x.2.1 x.2.2 : sProp 𝕄))
      = bigSep Finset.univ fun c : Dev nD => bigSep Finset.univ fun k : Fin 3 => dutyTok EX (kcell (c, k)) 0 () := by
    unfold allToks; rw [bigSep_map, bigSep_univ_prod]; rfl
  iintro HX
  imod (Rounds.fund EX (sched m ρ σ) allCells allToks) $$ HX with ⟨Hst, Hr, Hat, Htok⟩
  imodintro
  ihave Hst := (Entails.of_eq (hX fun g => roundState EX (sched m ρ σ) g 0)) $$ Hst
  ihave Hat := (Entails.of_eq (hX fun g => atPos EX g 0 ∅ 0)) $$ Hat
  ihave Hr := (Entails.of_eq (hX fun g => reached EX g 0)) $$ Hr
  ihave Htok := (Entails.of_eq hT) $$ Htok
  unfold G; simp only [bigSep_sep']
  isplitl [Hst]; · iexact Hst
  isplitl [Hat Hr]
  · isplitl [Hat] <;> iassumption
  iexact Htok

/-! ## The counters at launch: two of the launch's own, and the barrier's -/

omit [FloatOps F] in
theorem ownSems0_eq (c : Dev nD) : (Pipeline.ownSems0 (Ix := Unit) (Name := ℕ) (U := UU) (Lvl := ℕ) (Val := Elt F) (τ := τ) osem c : sProp 𝕄)
    = iprop(semVal (sendCell c) 0 ∗ semVal (recvCell c) 0) := by
  rw [Pipeline.ownSems0_eq_of_list c osem [0, 1] (by decide) (by decide)]; rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

theorem core_alloc (c : Dev nD) :
    iprop(Pipeline.ownSems0 (Ix := Unit) (Name := ℕ) (U := UU) (Lvl := ℕ) (Val := Elt F) (τ := τ) osem c ∗ unscopedSems0 c ∗ G m ρ σ c)
      ⊢ |={Set.univ}=> iprop((bigSep Finset.univ fun k => iprop(∃ κ : ℕ, cellInv EX (sched m ρ σ) κ (kcell (c, k))))
          ∗ (bigSep Finset.univ fun k => iprop(atPos EX (kcell (c, k)) 0 ∅ 0 ∗ reached EX (kcell (c, k)) 0))
          ∗ (bigSep Finset.univ fun k : Fin 3 => dutyTok EX (kcell (c, k)) 0 ())) := by
  have hv : iprop(Pipeline.ownSems0 (Ix := Unit) (Name := ℕ) (U := UU) (Lvl := ℕ) (Val := Elt F) (τ := τ) osem c ∗ unscopedSems0 c)
      ⊢ (bigSep Finset.univ fun k : Fin 3 => semVal (kcell (c, k)) 0 : sProp 𝕄) := by
    rw [ownSems0_eq, unscopedSems0_eq, three]
    iintro ⟨⟨HS, HV⟩, HB⟩
    isplitl [HB]; · iexact HB
    isplitl [HS] <;> iassumption
  unfold G
  iintro ⟨Hos, Hus, Hst, Hat, Htok⟩
  ihave Hv := hv $$ [Hos Hus]
  · isplitl [Hos] <;> iassumption
  imod (show iprop((bigSep Finset.univ fun k : Fin 3 => semVal (kcell (c, k)) 0) ∗ bigSep Finset.univ fun k : Fin 3 => roundState EX (sched m ρ σ) (kcell (c, k)) 0)
      ⊢ (|={Set.univ}=> bigSep Finset.univ fun k => iprop(∃ κ : ℕ, cellInv EX (sched m ρ σ) κ (kcell (c, k))) : sProp 𝕄) from by
        rw [← bigSep_sep']
        exact (bigSep_mono fun k _ => (Rounds.body_intro EX (sched m ρ σ) (kcell (c, k))).trans inv_alloc).trans (bigSep_fupd _ _)) $$ [Hv Hst] with Hinv
  · isplitl [Hv] <;> iassumption
  imodintro
  isplitl [Hinv]; · iexact Hinv
  isplitl [Hat] <;> iassumption

/-! ## The tokens dealt along the permutation -/

/-- All cells' invariants and marks, which every device may read. -/
def records (K : Dev nD × Fin 3 → ℕ) : sProp 𝕄 :=
  iprop((bigSep Finset.univ fun ck : Dev nD × Fin 3 => cellInv EX (sched m ρ σ) (K ck) (kcell ck))
    ∗ bigSep Finset.univ fun ck : Dev nD × Fin 3 => reached EX (kcell ck) 0)

instance records_persistent (K : Dev nD × Fin 3 → ℕ) : BI.Persistent (records m ρ σ K) := by unfold records; infer_instance

theorem inv_at (K : Dev nD × Fin 3 → ℕ) (ck : Dev nD × Fin 3) : records m ρ σ K ⊢ cellInv EX (sched m ρ σ) (K ck) (kcell ck) := by
  unfold records
  exact (sep_elim_left).trans (bigSep_elim (Finset.mem_univ ck))
theorem mark_at (K : Dev nD × Fin 3 → ℕ) (ck : Dev nD × Fin 3) : records m ρ σ K ⊢ reached EX (kcell ck) 0 := by
  unfold records
  exact (sep_elim_right).trans (bigSep_elim (Finset.mem_univ ck))

/-- What is device `c`'s alone: its positions, and the tokens of the payments it makes. -/
def linear (c : Dev nD) : sProp 𝕄 :=
  iprop((atPos EX (barCell c) 0 ∅ 0 ∗ atPos EX (sendCell c) 0 ∅ 0 ∗ atPos EX (recvCell c) 0 ∅ 0)
    ∗ dutyTok EX (barCell (σ.symm c)) 0 () ∗ dutyTok EX (recvCell (σ c)) 0 () ∗ dutyTok EX (sendCell c) 0 ())

theorem ghost_intro (K : Dev nD × Fin 3 → ℕ) (c : Dev nD) : iprop(records m ρ σ K ∗ linear σ c) ⊢ G' m ρ σ c := by
  unfold linear G' ghost invs
  iintro ⟨#HR, ⟨HaB, HaS, HaV⟩, HtB, HtV, HtS⟩
  iexists K
  isplitr
  · isplitr; · iapply (inv_at m ρ σ K (c, 0)); iexact HR
    isplitr; · iapply (inv_at m ρ σ K (c, 1)); iexact HR
    isplitr; · iapply (inv_at m ρ σ K (c, 2)); iexact HR
    isplitr; · iapply (inv_at m ρ σ K (σ.symm c, 0)); iexact HR
    iapply (inv_at m ρ σ K (σ c, 2)); iexact HR
  isplitl [HaB]; · iexact HaB
  isplitl [HaS]; · iexact HaS
  isplitl [HaV]; · iexact HaV
  isplitr; · iapply (mark_at m ρ σ K (σ.symm c, 0)); iexact HR
  isplitr; · iapply (mark_at m ρ σ K (σ c, 2)); iexact HR
  isplitr; · iapply (mark_at m ρ σ K (c, 1)); iexact HR
  isplitl [HtB]; · iexact HtB
  isplitl [HtV] <;> iassumption

theorem regroup :
    (bigSep Finset.univ fun c : Dev nD => iprop((bigSep Finset.univ fun k => iprop(∃ κ : ℕ, cellInv EX (sched m ρ σ) κ (kcell (c, k))))
          ∗ (bigSep Finset.univ fun k => iprop(atPos EX (kcell (c, k)) 0 ∅ 0 ∗ reached EX (kcell (c, k)) 0))
          ∗ (bigSep Finset.univ fun k : Fin 3 => dutyTok EX (kcell (c, k)) 0 ())) : sProp 𝕄)
      ⊢ bigSep Finset.univ (G' m ρ σ) := by
  have hlin : iprop((bigSep Finset.univ fun c : Dev nD => bigSep Finset.univ fun k : Fin 3 => (atPos EX (kcell (c, k)) 0 ∅ 0 : sProp 𝕄))
        ∗ bigSep Finset.univ fun c : Dev nD => bigSep Finset.univ fun k : Fin 3 => (dutyTok EX (kcell (c, k)) 0 () : sProp 𝕄))
      ⊢ bigSep Finset.univ (linear (F := F) σ) := by
    unfold linear
    simp only [three, bigSep_sep']
    iintro ⟨⟨H1, H2, H3⟩, HB, HS, HV⟩
    ihave HB := (Entails.of_eq (bigSep_univ_equiv σ.symm (fun c : Dev nD => (dutyTok EX (barCell c) 0 () : sProp 𝕄)))) $$ HB
    ihave HV := (Entails.of_eq (bigSep_univ_equiv σ (fun c : Dev nD => (dutyTok EX (recvCell c) 0 () : sProp 𝕄)))) $$ HV
    isplitl [H1 H2 H3]
    · isplitl [H1]; · iexact H1
      isplitl [H2] <;> iassumption
    isplitl [HB]; · iexact HB
    isplitl [HV] <;> iassumption
  rw [bigSep_sep', bigSep_sep', ← bigSep_univ_prod (fun ck : Dev nD × Fin 3 => iprop(∃ κ : ℕ, cellInv EX (sched m ρ σ) κ (kcell ck))),
    bigSep_congr (s := Finset.univ) (fun (c : Dev nD) _ => bigSep_sep' Finset.univ (fun k : Fin 3 => (atPos EX (kcell (c, k)) 0 ∅ 0 : sProp 𝕄)) (fun k => reached EX (kcell (c, k)) 0)),
    bigSep_sep', ← bigSep_univ_prod (fun ck : Dev nD × Fin 3 => (reached EX (kcell ck) 0 : sProp 𝕄))]
  iintro ⟨HI, ⟨Hat, #HR⟩, Htok⟩
  ihave HK := (BI.bigSep_exists_pi Finset.univ (fun (ck : Dev nD × Fin 3) (κ : ℕ) => (cellInv EX (sched m ρ σ) κ (kcell ck) : sProp 𝕄))) $$ HI
  icases HK with ⟨%K, #HI⟩
  iapply (show iprop(records m ρ σ K ∗ bigSep Finset.univ (linear (F := F) σ)) ⊢ bigSep Finset.univ (G' m ρ σ) from
    (sep_mono_left (BI.bigSep_of_persistent Finset.univ (records m ρ σ K))).trans
      (by rw [← bigSep_sep']; exact bigSep_mono fun c _ => ghost_intro m ρ σ K c))
  isplitr
  · unfold records; isplitl; · iexact HI
    iexact HR
  · iapply hlin
    isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G m ρ σ c) : sProp 𝕄)
    ⊢ |={Set.univ}=> bigSep Finset.univ (G' m ρ σ) :=
  ((bigSep_mono fun c _ => core_alloc m ρ σ c).trans (bigSep_fupd _ _)).trans (BI.fupd_mono (regroup m ρ σ))

/-! ## The credit at launch: what all devices owe a cell -/

theorem cell_dev {a b : Dev nD} {s t : SemLoc sig} (h : ((a : Thread nD τ), s) = ((b : Thread nD τ), t)) : a = b :=
  congrArg (fun g : GSem nD τ sig => g.1.1) h

/-- A barrier cell is owed one unit by the device its owner sends to, a receive cell one block by the device that
    sends to its owner. -/
theorem owed_bar (d c : Dev nD) : O₀ σ d (barCell c) () = if d = σ c then 1 else 0 := by
  unfold O₀ O₁
  rw [Pi.add_apply, Finsupp.add_apply, tallyAt_ne_cell (fun h => recv_ne_bar (congrArg Prod.snd h).symm), tallyAt_apply, Finsupp.zero_apply, Nat.zero_add]
  by_cases h : d = σ c
  · subst h; rw [Equiv.symm_apply_apply, if_pos ⟨rfl, rfl⟩, if_pos rfl]
  · rw [if_neg (fun ⟨h1, _⟩ => h (by rw [cell_dev h1, Equiv.apply_symm_apply])), if_neg h]
theorem owed_recv (d c : Dev nD) : O₀ σ d (recvCell c) () = if d = σ.symm c then N else 0 := by
  unfold O₀ O₁
  rw [Pi.add_apply, Finsupp.add_apply, tallyAt_apply, tallyAt_ne_cell (fun h => recv_ne_bar (congrArg Prod.snd h)), Finsupp.zero_apply, Nat.add_zero]
  by_cases h : d = σ.symm c
  · subst h; rw [Equiv.apply_symm_apply, if_pos ⟨rfl, rfl⟩, if_pos rfl]
  · rw [if_neg (fun ⟨h1, _⟩ => h (by rw [cell_dev h1, Equiv.symm_apply_apply])), if_neg h]

/-- A cell owed `n` by one device has `n` at launch. -/
theorem launch_cell (g : GSem nD τ sig) (e : Dev nD) (n : ℕ) (h : ∀ d, O₀ σ d g () = if d = e then n else 0) :
    tallyOn g (launchCredit (Pipeline.owing (O₀ σ)) 0 g) = (tallyAt g () n : CellTallies nD τ sig Unit) := by
  unfold tallyAt; refine congrArg _ (Finsupp.ext fun u => ?_); cases u
  rw [Pipeline.launchCredit_owing, Finsupp.single_eq_same, Finset.sum_congr rfl fun d _ => h d, Finset.sum_ite_eq' Finset.univ e fun _ => n,
    if_pos (Finset.mem_univ _)]

omit [FloatOps F] in
theorem creds (c : Dev nD) :
    (Pipeline.launchCred (O₀ σ) c : sProp 𝕄) ⊢ iprop(cred (tallyAt (barCell c) () 1) ∗ cred (tallyAt (recvCell c) () N)) := by
  unfold Pipeline.launchCred
  rw [bigSep_univ_at _ (SemLoc.reg barS), launch_cell σ (barCell c) (σ c) 1 fun d => owed_bar σ d c]
  refine sep_mono_right ?_
  rw [← launch_cell σ (recvCell c) (σ.symm c) N fun d => owed_recv σ d c]
  exact bigSep_elim (Finset.mem_erase.mpr ⟨recv_ne_bar, Finset.mem_univ _⟩)

/-! ## The run -/

theorem start_intro (c : Dev nD) :
    iprop(Pipeline.unscopedRestP Pipeline.Prefetch.none cfg0.spec c (fun b => m ((c : Thread nD τ).loc b)) ∗ levAts L lv
        ∗ Pipeline.launchCred (O₀ σ) c ∗ prngReg c (ρ c) ∗ G' m ρ σ c)
      ⊢ |={Set.univ}=> iprop(start m ρ σ c ∗ emp) := by
  iintro ⟨-, Hlev, Hcr, -, HG⟩
  ihave Hc := (creds (F := F) σ c) $$ Hcr
  icases Hc with ⟨H1, HN⟩
  imodintro
  unfold start G'
  isplitl
  · isplitl [HG]; · iexact HG
    isplitl [H1]; · iexact H1
    isplitl [HN] <;> iassumption
  · iempintro

theorem phi0_intro (c : Dev nD) :
    iprop(start m ρ σ c ∗ Pipeline.prefHeld Pipeline.Prefetch.none c (fun _ => fullShare.right) (fun k => k.elim0) ∗ Pipeline.scopedRest cfg0.spec c)
      ⊢ (dats m ρ σ 0 c).Φ 0 := by
  rw [show (dats m ρ σ 0 c).Φ 0 = Φ₀ m ρ σ c from rfl, scopedRest0_eq]
  unfold Φ₀
  iintro ⟨Hs, -, ⟨%f, Hr⟩⟩
  isplitl [Hs]; · iexact Hs
  iexists f; rw [bufPts_eq]; iexact Hr

theorem phi1_exit (c : Dev nD) :
    (dats m ρ σ 0 c).Φ (Fin.last cfg0.N) ⊢ iprop(unscopedSems0 c ∗ Pipeline.ownSems0 osem c ∗ Pipeline.scopedRest cfg0.spec c) := by
  rw [show (dats m ρ σ 0 c).Φ (Fin.last cfg0.N) = Φ₁ m ρ c from rfl, scopedRest0_eq, ownSems0_eq, unscopedSems0_eq]
  unfold Φ₁
  iintro ⟨Hr, HzS, HzV, HzB⟩
  isplitl [HzB]; · iexact HzB
  isplitl [HzS HzV]
  · isplitl [HzS] <;> iassumption
  iexists (k0_pay1 (xstg m ρ c)); rw [← bufPts_eq]; iexact Hr

theorem waits (c : Dev nD) : (levAts L lv : sProp 𝕄) ⊢ Pipeline.cellsWaits cfgs (dats m ρ σ) () 0 c :=
  Pipeline.cellsWaits_intro cfgs (dats m ρ σ) () 0 c fun w s t =>
    mayWait_stage σ c _ (by fin_cases w <;> fin_cases s <;> decide) _ (by
      rcases t with ⟨_ | _, ht⟩
      · exact Or.inl rfl
      · exact Or.inr rfl)

/-- What the run leaves in the array of window `w` on device `c`. -/
def finalA (c : Dev nD) (w : Fin cfg0.W) : Buf (Elt F) ((cfg0.win w).arr.view.loc (c : Thread nD τ)) := (dats m ρ σ 0 c).arrAt w cfg0.N

set_option maxRecDepth 5000 in
/-- Every weakly fair execution of `@main` from a memory whose tables spell `σ`, counters at zero, terminates with each
    window's array at the computed contents and every counter at zero. -/
theorem run_windows (hT : Tables σ m) : θ_run defs (onTc (τ := τ) (main (F := F))) (s₀ m ρ)
    (fun r => (∀ c : Dev nD, ∀ w : Fin cfg0.W, r.2.mem ((cfg0.win w).arr.view.loc (c : Thread nD τ)) = finalA m ρ σ c w) ∧ r.2.sem = fun _ => 0) :=
  Pipeline.θ_run_region_owing_glob_pf (fun p => (cfgs p).toPCfg) (fun p => (cfgs p).toPCfg_adm) (dats m ρ σ) () cellOf_inj (0 : Fin 1)
    winFacts0.to₀ ownSemFacts (Pipeline.PreFacts.none _) EP defs₀ 𝒱₀ m ρ main
    (hmain := fun _ => rfl)
    (hbody := body_obligation m ρ σ hT) (hne := block_pos0) (harr := arr_whole0) (hstage := stage_whole0) (hshare := share_eq m ρ σ)
    (hdistinct := winFacts0.arr_inj)
    (O₀ := O₀ σ) (howed₀ := fun _ => rfl) (howedN := fun _ => rfl)
    (L := L) (lv := lv) (hL := L_of_ne) (hwaits := waits m ρ σ)
    (G := G m ρ σ) (G' := G' m ρ σ) (u₀ := u₀)
    (hu₀ := by
      unfold u₀
      iintro Hu
      ihave H := (ownU_pair _ _) $$ Hu
      icases H with ⟨HP, HX⟩
      imod (fund_cells m ρ σ) $$ HX with HG
      imodintro
      isplitl [HP] <;> iassumption)
    (hglob := glob m ρ σ)
    (hA := fun _ _ => rfl) (hpf := fun _ k => k.elim0)
    (X := start m ρ σ) (Y := fun c => unscopedSems0 c) (Z := fun _ => iprop(emp))
    (hX := start_intro m ρ σ) (hin := phi0_intro m ρ σ) (hout := phi1_exit m ρ σ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## The arrays after the run -/

theorem final_table (c : Dev nD) : finalA m ρ σ c (0 : Fin 3) = m ((c : Thread nD τ).loc main_arg1) :=
  (dats (F := F) m ρ σ 0 c).arrAt_in (0 : Fin 3) rfl _
theorem final_x (c : Dev nD) : finalA m ρ σ c (1 : Fin 3) = m ((c : Thread nD τ).loc main_arg0) :=
  (dats (F := F) m ρ σ 0 c).arrAt_in (1 : Fin 3) rfl _

/-- Window `w`'s one block is its whole array, element by element. -/
theorem place (y : S1x512x512.Idx) (t : Fin cfg0.N) : (win0_2.blk t).view.emb y = y :=
  funext fun a => Fin.ext (win0_2.rect_emb_val_of_index_zero t a (by fin_cases a <;> rfl) y)

theorem out_flushed (c : Dev nD) (t : Fin cfg0.N) :
    (dats m ρ σ 0 c).flushed (2 : Fin 3) t = ((cfg0.win (2 : Fin 3)).blk t).view.read (Elt F) (m ((σ.symm c : Thread nD τ).loc main_arg0)) := by
  rw [fin_N0 t]; rfl

/-- The result on device `c` is the block of `x` of the device whose table word is `c`. -/
theorem final_out (c : Dev nD) : finalA m ρ σ c (2 : Fin 3) = m ((σ.symm c : Thread nD τ).loc main_arg0) :=
  (dats m ρ σ 0 c).arrAt_eq_of_cover (2 : Fin 3) _ (fun t _ => out_flushed m ρ σ c t)
    fun i => ⟨t0_0, flush0_2 t0_0, by
      have h := (win0_2.blk t0_0).view.emb_mem_set i
      rwa [place] at h⟩

/-- The run, array by array. -/
theorem run_main (hT : Tables σ m) : θ_run defs (onTc (τ := τ) (main (F := F))) (s₀ m ρ) (fun r =>
    (∀ c : Dev nD, r.2.mem ((c : Thread nD τ).loc main_arg1) = m ((c : Thread nD τ).loc main_arg1)
      ∧ r.2.mem ((c : Thread nD τ).loc main_arg0) = m ((c : Thread nD τ).loc main_arg0)
      ∧ r.2.mem ((c : Thread nD τ).loc main_v1) = m ((σ.symm c : Thread nD τ).loc main_arg0)) ∧ r.2.sem = fun _ => 0) :=
  (θ_run defs _ _).mono (fun _ h => ⟨fun c => ⟨(h.1 c 0).trans (final_table m ρ σ c), (h.1 c 1).trans (final_x m ρ σ c), (h.1 c 2).trans (final_out m ρ σ c)⟩, h.2⟩)
    (run_windows m ρ σ hT)

end Cert.PermProof

end
-- ==== Proof.Ref.lean ====
/-
The reference computed at a table that spells a permutation: `argsort` gives the inverse permutation's words, so the
gather takes at row `c` the row of `x` whose number the table sends to `c`, and the two format changes after it are the
identity at the ideal instance.
-/
module

public import proofs.«01_k».proof.Proof.Route
public import proofs.«01_k».proof.Proof.Gen.ReferenceIdeal
public import proofs.«01_k».proof.Proof.Gen.ReferenceIdeal.Run
public import Idealize.ShloMosaic.Lib.SortFacts
public import Idealize.ShloMosaic.Lib.Layout

@[expose] public section

noncomputable section

namespace Cert.PermRef

open Cert.ReferenceIdeal Cert.ReferenceIdeal.Gen Cert.PermProof
open Idealize.ShloMosaic Idealize.ShloMosaic.TcCoe Idealize.SL.Sem

variable {σ : Equiv.Perm (Dev 16)} {t : IVec S16 32}

/-! ## The sort -/

/-- The comparison of two words of device numbers is the comparison of the numbers. -/
theorem before_word (a b : Dev 16) : IntOp.cmpi .slt (Dev.word a) (Dev.word b) = BitVec.ofBool (decide (a < b)) := by
  revert a b; decide

/-- A stable sort of positions by their images under `σ` puts at `k` the position `σ` sends to `k`. -/
theorem sorted_inverse {n : Nat} (π : Equiv.Perm (Fin n)) (k : Fin n) : sortedFrom (fun a b => decide (π a < π b)) k = π.symm k := by
  have e : sortPositions n (fun a b => decide (π a < π b)) = List.ofFn π.symm := sortPositions_of_perm π.symm
  unfold sortedFrom
  rw [List.get_of_eq e]
  simp

/-- A sort of two rank-1 arrays reads the second through one self-map of the positions. -/
theorem sort2_rank1 {n : Nat} {α β : Type} (cmp : α × β → α × β → BitVec 1) (x : (⟨1, ![n]⟩ : Shape).Idx → α) (y : (⟨1, ![n]⟩ : Shape).Idx → β)
    (j : (⟨1, ![n]⟩ : Shape).Idx) :
    (Host.sort2 ⟨1, ![n]⟩ 0 cmp x y).2 j
      = y (Shape.Idx.ofFin (sortedFrom (fun k k' => cmp (x (Shape.Idx.ofFin k), y (Shape.Idx.ofFin k)) (x (Shape.Idx.ofFin k'), y (Shape.Idx.ofFin k')) == 1#1) (j 0))) := by
  unfold Host.sort2
  simp

theorem before_eq (h : Spells σ t) (y : IVec S16 32) (a b : Fin 16) :
    (comparator_i32_i32_d0 (t (Shape.Idx.ofFin a), y (Shape.Idx.ofFin a)) (t (Shape.Idx.ofFin b), y (Shape.Idx.ofFin b)) == 1#1) = decide (σ a < σ b) := by
  show (IntOp.cmpi .slt (t (slot a)) (t (slot b)) == 1#1) = _
  rw [h a, h b, before_word]
  cases decide (σ a < σ b) <;> rfl

/-- So the argsort of the table spells the inverse. -/
theorem argsort_word (h : Spells σ t) (k : Fin 16) :
    (Host.sort2 S16 0 comparator_i32_i32_d0 t (iotaInDim S16 32 0)).2 (slot k) = Dev.word (σ.symm k) := by
  have key : sortedFrom (fun a b : Fin 16 => comparator_i32_i32_d0 (t (Shape.Idx.ofFin a), iotaInDim S16 32 0 (Shape.Idx.ofFin a)) (t (Shape.Idx.ofFin b), iotaInDim S16 32 0 (Shape.Idx.ofFin b)) == 1#1) k
      = σ.symm k :=
    (congrArg (fun f => sortedFrom f k) (funext fun a => funext fun b => before_eq h _ a b)).trans (sorted_inverse σ k)
  exact (sort2_rank1 comparator_i32_i32_d0 t (iotaInDim S16 32 0) (slot k)).trans
    (congrArg (fun b : Fin 16 => iotaInDim S16 32 0 (Shape.Idx.ofFin b)) key)

/-- A start index is nonnegative already: adding the extent to a negative one changes nothing. -/
theorem start_word (b : Dev 16) :
    Scalar.select (IntOp.cmpi .slt (Dev.word b) 0#32) (IntOp.addi (Dev.word b) 16#32) (Dev.word b) = Dev.word b := by
  revert b; decide

/-- The start indices the reference makes of sorted positions `v`. -/
abbrev starts (v : IVec S16 32) : IVec S16x1 32 :=
  broadcastInDim S16x1 ![0] bcast_S16_S16x1_0 (select (cmpi .slt v (broadcastInDim S16 ![] bcast_S_S16 (constantI S_ 32 0#32)))
    (addi v (broadcastInDim S16 ![] bcast_S_S16 (constantI S_ 32 16#32))) v)

theorem starts_word (v : IVec S16 32) (b : Dev 16) (j : S16x1.Idx) (hv : ∀ k : Fin 16, k.val = (j 0).val → v (slot k) = Dev.word b) :
    starts v j = Dev.word b := by
  have e (i : S16.Idx) (hi : v i = Dev.word b) : Scalar.select (IntOp.cmpi .slt (v i) 0#32) (IntOp.addi (v i) 16#32) (v i) = Dev.word b := by
    rw [hi]; exact start_word b
  refine e _ ?_
  rw [← hv ⟨(j 0).val, (j 0).isLt⟩ rfl]
  exact congrArg v (funext fun a => Fin.ext (by obtain rfl : a = 0 := Subsingleton.elim _ _; rfl))

/-! ## The gather -/

/-- Index `i` with its row replaced by `b`. -/
def atRow (b : Dev 16) (i : S16x512x512.Idx) : S16x512x512.Idx := fun | 0 => b | 1 => i 1 | 2 => i 2

abbrev takeRows := gather_S16x512x512_S16x1_S16x512x512_12_0_n_n_0_1_1512512

theorem word_clamped (b : Dev 16) : min (Dev.word b).toInt.toNat 15 = b.val := by revert b; decide

theorem take_row (i : S16x512x512.Idx) (s : IVec S16x1 32) (b : Dev 16) (hs : ∀ j : S16x1.Idx, (j 0).val = (i 0).val → s j = Dev.word b) :
    takeRows.operandIdx i s = atRow b i := by
  have h0 : (0 : Fin 3) ∉ takeRows.sKept := by decide
  have m0 : (0 : Fin 3) ∈ takeRows.startIndexMap := by decide
  have h1 : (1 : Fin 3) ∈ takeRows.sKept := by decide
  have m1 : (1 : Fin 3) ∉ takeRows.startIndexMap := by decide
  have h2 : (2 : Fin 3) ∈ takeRows.sKept := by decide
  have m2 : (2 : Fin 3) ∉ takeRows.startIndexMap := by decide
  funext a
  refine Fin.ext ?_
  match a with
  | ⟨0, _⟩ =>
    show takeRows.start i s 0 + takeRows.batchCoord i 0 + takeRows.offCoord i 0 = b.val
    rw [takeRows.batchCoord_eq_zero _ _ List.not_mem_nil, takeRows.offCoord_eq_zero _ _ h0]
    simp only [Nat.add_zero]
    unfold GatherDims.start
    rw [dif_pos m0, hs _ rfl]
    exact word_clamped b
  | ⟨1, _⟩ =>
    show takeRows.start i s 1 + takeRows.batchCoord i 1 + takeRows.offCoord i 1 = (i 1).val
    rw [takeRows.batchCoord_eq_zero _ _ List.not_mem_nil, Nat.add_zero]
    unfold GatherDims.start GatherDims.offCoord
    rw [dif_neg m1, dif_pos h1, Nat.zero_add]
    rfl
  | ⟨2, _⟩ =>
    show takeRows.start i s 2 + takeRows.batchCoord i 2 + takeRows.offCoord i 2 = (i 2).val
    rw [takeRows.batchCoord_eq_zero _ _ List.not_mem_nil, Nat.add_zero]
    unfold GatherDims.start GatherDims.offCoord
    rw [dif_neg m2, dif_pos h2, Nat.zero_add]
    rfl

/-- The gathered array of the reference. -/
abbrev gathered {α : Type} (x : S16x512x512.Idx → α) (t : IVec S16 32) : S16x512x512.Idx → α :=
  Host.gather takeRows x (starts (Host.sort2 S16 0 comparator_i32_i32_d0 t (iotaInDim S16 32 0)).2)

/-- Row `c` of it is the row of `x` whose table word is `c`. -/
theorem gathered_at {α : Type} (h : Spells σ t) (x : S16x512x512.Idx → α) (c : Dev 16) (i : S16x512x512.Idx) (hc : (i 0).val = c.val) :
    gathered x t i = x (atRow (σ.symm c) i) :=
  congrArg x (take_row i _ _ fun j hj => starts_word _ _ j fun k hk => by
    obtain rfl : k = c := Fin.ext (hk.trans (hj.trans hc))
    exact argsort_word h k)

/-- The block of device `σ⁻¹ c` of the argument is block `c` of it. -/
theorem block_gathered {α : Type} (h : Spells σ t) (x : S16x512x512.Idx → α) (c : Dev 16) :
    Layout.block ⟨3, ![1, 512, 512]⟩ ⟨3, ![16, 512, 512]⟩ 0 16 (σ.symm c) x = Layout.block ⟨3, ![1, 512, 512]⟩ ⟨3, ![16, 512, 512]⟩ 0 16 c (gathered x t) := by
  funext i
  have hi : (i 0).val = 0 := by have := (i 0).isLt; exact Nat.lt_one_iff.mp this
  rw [Layout.block_apply, Layout.block_apply, gathered_at h x c _ (by show c.val * 1 + (i 0).val = c.val; omega)]
  refine congrArg x (funext fun a => Fin.ext ?_)
  match a with
  | ⟨0, _⟩ => show (σ.symm c).val * 1 + (i 0).val = (σ.symm c).val; omega
  | ⟨1, _⟩ => rfl
  | ⟨2, _⟩ => rfl

end Cert.PermRef

end
-- ==== Proof.Claims.lean ====
/-
The statements of the certificate, each proved for any permutation a memory's tables spell, and the tables that the
predicates name: word `c` of table `r` is `c + r` modulo sixteen.
-/
module

public import proofs.«01_k».proof.Kernel
public import proofs.«01_k».proof.Proof.Run
public import proofs.«01_k».proof.Proof.Ref
public import proofs.«01_k».proof.Proof.Gen.Kernel
public import Idealize.ShloMosaic.PureOps.BitExact
public import Idealize.ShloMosaic.PureOps.Ideal
public import Idealize.ShloMosaic.Lib.Quiescent

@[expose] public section

noncomputable section

namespace Cert.PermClaims

open Cert.PermProof Cert.PermRef
open Idealize.ShloMosaic Idealize.ShloMosaic.TcCoe Idealize.SL.Sem

/-! ## The runs -/

section
open Cert.KernelIdeal Cert.KernelIdeal.Gen
variable {F : FTy → Type} [FloatOps F]

/-- The kernel over any float values: it terminates, its arguments end as they began, every counter ends at zero. -/
theorem frame_of (σ : Equiv.Perm (Dev 16)) (m : (ℓ : Loc nD τ sig) → Buf (Elt F) ℓ) (g : Dev nD → PrngReg)
    (h : ∀ c : Dev nD, Spells σ (m ((c : Thread nD τ).loc main_arg1))) :
    θ_run (defs (F := F)) (onTc (τ := τ) (main (F := F))) ⟨m, fun _ => 0, g⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run defs _ _).mono (fun _ hr => ⟨fun c => ⟨(hr.1 c).2.1, (hr.1 c).1⟩, hr.2⟩) (run_main m g σ h)

end

section
open Cert.Kernel.Gen Cert.KernelIdeal.Gen

/-- The body tables of the two programs have one label, and the same body there. -/
theorem same_bodies : Cert.Kernel.defs₀ (F := Bits) = Cert.KernelIdeal.defs₀ (F := Bits) := by
  refine congrArg Defs.onTc (funext fun l => funext fun a => ?_)
  match l, a with
  | ⟨0, _⟩, (t, s) => rfl

theorem same_defs : Cert.Kernel.defs (F := Bits) = Cert.KernelIdeal.defs (F := Bits) := by
  unfold Cert.Kernel.defs Cert.KernelIdeal.defs
  exact congrArg (Pipeline.defs Cert.Kernel.pcfgs) same_bodies

end

section
open Cert.Kernel Cert.Kernel.Gen

/-- The program before idealization is the same text, so at bit patterns its run is the one above. -/
theorem kernel_frame (σ : Equiv.Perm (Dev 16)) (m : (ℓ : Loc nD τ sig) → Buf (Elt Bits) ℓ) (g : Dev nD → PrngReg)
    (h : ∀ c : Dev nD, Spells σ (m ((c : Thread nD τ).loc main_arg1))) :
    θ_run (defs (F := Bits)) (onTc (τ := τ) (main (F := Bits))) ⟨m, fun _ => 0, g⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  same_defs ▸ frame_of (F := Bits) σ m g h

end

section
open Cert.ReferenceIdeal Cert.ReferenceIdeal.Gen

/-- The reference, a host program, declares no counter. -/
theorem reference_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run defs _ _).mono (fun r hr => ⟨fun c => (hr c).2, sem_eq_zero_of_no_sems (by decide) r.2⟩) (Cert.ReferenceIdeal.Value.run (F := Ideal) m g)

/-- Over extended reals the two format changes are the identity: the result is the gathered array. -/
theorem reference_value (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c : Thread nD τ).loc main_v9) = gathered (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)) :=
  (θ_run defs _ _).mono (fun r hr c => ⟨(hr c).1, (hr c).2⟩) (Cert.ReferenceIdeal.Value.run (F := Ideal) m g)

end

/-! ## The values -/

section

/-- The whole array over sixteen blocks, cut for device `c`. -/
abbrev cut {α : Type} (c : Fin 16) (v : Shape.Idx ⟨3, ![16, 512, 512]⟩ → α) : Shape.Idx ⟨3, ![1, 512, 512]⟩ → α :=
  Layout.block ⟨3, ![1, 512, 512]⟩ ⟨3, ![16, 512, 512]⟩ 0 16 c v

theorem same_values (σ : Equiv.Perm (Dev 16))
    (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg)
    (h : ∀ c : Dev Cert.KernelIdeal.nD, Spells σ (m ((c : Thread Cert.KernelIdeal.nD Cert.KernelIdeal.τ).loc Cert.KernelIdeal.main_arg1)))
    (hm : ∀ c : Dev Cert.KernelIdeal.nD,
      m ((c : Thread Cert.KernelIdeal.nD Cert.KernelIdeal.τ).loc Cert.KernelIdeal.main_arg0)
          = cut c (m' (((0 : Dev Cert.ReferenceIdeal.nD) : Thread Cert.ReferenceIdeal.nD Cert.ReferenceIdeal.τ).loc Cert.ReferenceIdeal.main_arg0))
        ∧ m ((c : Thread Cert.KernelIdeal.nD Cert.KernelIdeal.τ).loc Cert.KernelIdeal.main_arg1)
          = m' (((0 : Dev Cert.ReferenceIdeal.nD) : Thread Cert.ReferenceIdeal.nD Cert.ReferenceIdeal.τ).loc Cert.ReferenceIdeal.main_arg1)) :
    ∃ v : Buf (Elt Ideal) (((0 : Dev Cert.ReferenceIdeal.nD) : Thread Cert.ReferenceIdeal.nD Cert.ReferenceIdeal.τ).loc Cert.ReferenceIdeal.main_v9),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c : Thread Cert.KernelIdeal.nD Cert.KernelIdeal.τ).loc Cert.KernelIdeal.main_v1) = cut c v
          ∧ r.2.mem ((c : Thread Cert.KernelIdeal.nD Cert.KernelIdeal.τ).loc Cert.KernelIdeal.main_arg0) = m ((c : Thread Cert.KernelIdeal.nD Cert.KernelIdeal.τ).loc Cert.KernelIdeal.main_arg0)
          ∧ r.2.mem ((c : Thread Cert.KernelIdeal.nD Cert.KernelIdeal.τ).loc Cert.KernelIdeal.main_arg1) = m ((c : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD) : Thread Cert.ReferenceIdeal.nD Cert.ReferenceIdeal.τ).loc Cert.ReferenceIdeal.main_v9) = v
          ∧ r.2.mem (((0 : Dev Cert.ReferenceIdeal.nD) : Thread Cert.ReferenceIdeal.nD Cert.ReferenceIdeal.τ).loc Cert.ReferenceIdeal.main_arg0)
            = m' (((0 : Dev Cert.ReferenceIdeal.nD) : Thread Cert.ReferenceIdeal.nD Cert.ReferenceIdeal.τ).loc Cert.ReferenceIdeal.main_arg0)
          ∧ r.2.mem (((0 : Dev Cert.ReferenceIdeal.nD) : Thread Cert.ReferenceIdeal.nD Cert.ReferenceIdeal.τ).loc Cert.ReferenceIdeal.main_arg1)
            = m' (((0 : Dev Cert.ReferenceIdeal.nD) : Thread Cert.ReferenceIdeal.nD Cert.ReferenceIdeal.τ).loc Cert.ReferenceIdeal.main_arg1)) :=
  have ht : Spells σ (m' (((0 : Dev Cert.ReferenceIdeal.nD) : Thread Cert.ReferenceIdeal.nD Cert.ReferenceIdeal.τ).loc Cert.ReferenceIdeal.main_arg1)) := (hm 0).2 ▸ h 0
  ⟨_, (θ_run Cert.KernelIdeal.defs _ _).mono (fun _ hr c => ⟨(hr.1 c).2.2.trans ((hm (σ.symm c)).1.trans (block_gathered ht _ c)), (hr.1 c).2.1, (hr.1 c).1⟩)
      (run_main (F := Ideal) m g σ h),
    (θ_run Cert.ReferenceIdeal.defs _ _).mono (fun _ hr => hr 0) (reference_value m' g')⟩

end

/-! ## The tables -/

/-- Table `r`'s permutation: device `c` sends to device `c + r`. -/
abbrev turn (r : Fin 16) : Equiv.Perm (Dev 16) := Equiv.addRight r

/-- What a table's predicate compares. -/
abbrev turned (w : BitVec 32) (t : IVec Cert.KernelIdeal.S16 32) : IVec Cert.KernelIdeal.S16 1 :=
  fun i => IntOp.cmpi .eq (t i) (IntOp.andi (IntOp.addi (BitVec.ofNat 32 (i 0).val) w) 15#32)

theorem turn_word (r : Fin 16) (j : Fin 16) : IntOp.andi (IntOp.addi (BitVec.ofNat 32 j.val) (BitVec.ofNat 32 r.val)) 15#32 = Dev.word (turn r j) := by
  revert r j; decide

theorem spells_of_turned (r : Fin 16) (t : IVec Cert.KernelIdeal.S16 32) (h : turned (BitVec.ofNat 32 r.val) t = fun _ => 1#1) : Spells (turn r) t := fun j => by
  have e : IntOp.cmpi .eq (t (slot j)) (IntOp.andi (IntOp.addi (BitVec.ofNat 32 j.val) (BitVec.ofNat 32 r.val)) 15#32) = 1#1 := congrFun h (slot j)
  rw [turn_word] at e
  have hb : ∀ b : Bool, BitVec.ofBool b = 1#1 → b = true := by decide
  exact eq_of_beq (hb _ e)

end Cert.PermClaims

end
-- ==== Proof.lean ====
/- The certificate: the named statements, each from the one proof for any permutation its tables spell. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Claims
public import Idealize.ShloMosaic.Adequacy
public import Idealize.ShloMosaic.Init

@[expose] public section

noncomputable section

namespace Cert.Proof

open Cert.PermClaims
open Idealize.ShloMosaic Idealize.ShloMosaic.TcCoe Idealize.SL.Sem

theorem claim : Cert.Claim :=
  ⟨Cert.ReferenceIdeal.Gen.facts, Cert.Kernel.Gen.facts, Cert.KernelIdeal.Gen.facts,
    ⟨by decide⟩, ⟨by decide⟩, ⟨by decide⟩, ⟨by decide⟩, ⟨by decide⟩, ⟨by decide⟩, ⟨by decide⟩, ⟨by decide⟩, ⟨by decide⟩, ⟨by decide⟩,
    ⟨by decide⟩, ⟨by decide⟩, ⟨by decide⟩, ⟨by decide⟩, ⟨by decide⟩, ⟨by decide⟩, ⟨by decide⟩, ⟨by decide⟩, ⟨by decide⟩, ⟨by decide⟩,
    ⟨by decide⟩, ⟨by decide⟩, ⟨by decide⟩, ⟨by decide⟩, ⟨by decide⟩, ⟨by decide⟩, ⟨by decide⟩, ⟨by decide⟩, ⟨by decide⟩, ⟨by decide⟩,
    fun m g _ => reference_frame m g,
    fun m g _ => reference_frame m g,
    fun m g _ => reference_frame m g,
    fun m g _ => reference_frame m g,
    fun m g _ => reference_frame m g,
    fun m g _ => reference_frame m g,
    fun m g _ => reference_frame m g,
    fun m g _ => reference_frame m g,
    fun m g _ => reference_frame m g,
    fun m g _ => reference_frame m g,
    fun m g _ => reference_frame m g,
    fun m g _ => reference_frame m g,
    fun m g _ => reference_frame m g,
    fun m g _ => reference_frame m g,
    fun m g _ => reference_frame m g,
    fun m g _ => reference_frame m g,
    fun m g h => kernel_frame (turn 1) m g fun c => spells_of_turned 1 _ (h c),
    fun m g h => kernel_frame (turn 2) m g fun c => spells_of_turned 2 _ (h c),
    fun m g h => kernel_frame (turn 3) m g fun c => spells_of_turned 3 _ (h c),
    fun m g h => kernel_frame (turn 4) m g fun c => spells_of_turned 4 _ (h c),
    fun m g h => kernel_frame (turn 5) m g fun c => spells_of_turned 5 _ (h c),
    fun m g h => kernel_frame (turn 6) m g fun c => spells_of_turned 6 _ (h c),
    fun m g h => kernel_frame (turn 7) m g fun c => spells_of_turned 7 _ (h c),
    fun m g h => kernel_frame (turn 8) m g fun c => spells_of_turned 8 _ (h c),
    fun m g h => kernel_frame (turn 9) m g fun c => spells_of_turned 9 _ (h c),
    fun m g h => kernel_frame (turn 10) m g fun c => spells_of_turned 10 _ (h c),
    fun m g h => kernel_frame (turn 11) m g fun c => spells_of_turned 11 _ (h c),
    fun m g h => kernel_frame (turn 12) m g fun c => spells_of_turned 12 _ (h c),
    fun m g h => kernel_frame (turn 13) m g fun c => spells_of_turned 13 _ (h c),
    fun m g h => kernel_frame (turn 14) m g fun c => spells_of_turned 14 _ (h c),
    fun m g h => kernel_frame (turn 15) m g fun c => spells_of_turned 15 _ (h c),
    fun m g h => frame_of (turn 1) m g fun c => spells_of_turned 1 _ (h c),
    fun m g h => frame_of (turn 2) m g fun c => spells_of_turned 2 _ (h c),
    fun m g h => frame_of (turn 3) m g fun c => spells_of_turned 3 _ (h c),
    fun m g h => frame_of (turn 4) m g fun c => spells_of_turned 4 _ (h c),
    fun m g h => frame_of (turn 5) m g fun c => spells_of_turned 5 _ (h c),
    fun m g h => frame_of (turn 6) m g fun c => spells_of_turned 6 _ (h c),
    fun m g h => frame_of (turn 7) m g fun c => spells_of_turned 7 _ (h c),
    fun m g h => frame_of (turn 8) m g fun c => spells_of_turned 8 _ (h c),
    fun m g h => frame_of (turn 9) m g fun c => spells_of_turned 9 _ (h c),
    fun m g h => frame_of (turn 10) m g fun c => spells_of_turned 10 _ (h c),
    fun m g h => frame_of (turn 11) m g fun c => spells_of_turned 11 _ (h c),
    fun m g h => frame_of (turn 12) m g fun c => spells_of_turned 12 _ (h c),
    fun m g h => frame_of (turn 13) m g fun c => spells_of_turned 13 _ (h c),
    fun m g h => frame_of (turn 14) m g fun c => spells_of_turned 14 _ (h c),
    fun m g h => frame_of (turn 15) m g fun c => spells_of_turned 15 _ (h c),
    trivial,
    fun m g m' g' h hm => same_values (turn 1) m g m' g' (fun c => spells_of_turned 1 _ (h c)) hm,
    fun m g m' g' h hm => same_values (turn 2) m g m' g' (fun c => spells_of_turned 2 _ (h c)) hm,
    fun m g m' g' h hm => same_values (turn 3) m g m' g' (fun c => spells_of_turned 3 _ (h c)) hm,
    fun m g m' g' h hm => same_values (turn 4) m g m' g' (fun c => spells_of_turned 4 _ (h c)) hm,
    fun m g m' g' h hm => same_values (turn 5) m g m' g' (fun c => spells_of_turned 5 _ (h c)) hm,
    fun m g m' g' h hm => same_values (turn 6) m g m' g' (fun c => spells_of_turned 6 _ (h c)) hm,
    fun m g m' g' h hm => same_values (turn 7) m g m' g' (fun c => spells_of_turned 7 _ (h c)) hm,
    fun m g m' g' h hm => same_values (turn 8) m g m' g' (fun c => spells_of_turned 8 _ (h c)) hm,
    fun m g m' g' h hm => same_values (turn 9) m g m' g' (fun c => spells_of_turned 9 _ (h c)) hm,
    fun m g m' g' h hm => same_values (turn 10) m g m' g' (fun c => spells_of_turned 10 _ (h c)) hm,
    fun m g m' g' h hm => same_values (turn 11) m g m' g' (fun c => spells_of_turned 11 _ (h c)) hm,
    fun m g m' g' h hm => same_values (turn 12) m g m' g' (fun c => spells_of_turned 12 _ (h c)) hm,
    fun m g m' g' h hm => same_values (turn 13) m g m' g' (fun c => spells_of_turned 13 _ (h c)) hm,
    fun m g m' g' h hm => same_values (turn 14) m g m' g' (fun c => spells_of_turned 14 _ (h c)) hm,
    fun m g m' g' h hm => same_values (turn 15) m g m' g' (fun c => spells_of_turned 15 _ (h c)) hm⟩

end Cert.Proof

end
